-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x256x1024 : Shape := ⟨3, ![1, 256, 1024]⟩
abbrev S1024x1024 : Shape := ⟨2, ![1024, 1024]⟩
abbrev S1024x4096 : Shape := ⟨2, ![1024, 4096]⟩
abbrev S_ : Shape := ⟨0, ![]⟩

class Facts : Prop where
  bcast_S_S1x256x1024 : S_.BroadcastsInDim S1x256x1024 (![] : Fin 0 → Fin S1x256x1024.rank)
  bcast_S_S1024x1024 : S_.BroadcastsInDim S1024x1024 (![] : Fin 0 → Fin S1024x1024.rank)
  bcast_S_S1024x4096 : S_.BroadcastsInDim S1024x4096 (![] : Fin 0 → Fin S1024x4096.rank)

variable [Facts]

def fn {F : FTy → Type} [FloatOps F] (main_arg0 : FVec F S1x256x1024 .f32) (main_arg1 : FVec F S1024x1024 .f32) (main_arg2 : FVec F S1024x4096 .f32) (main_arg3 : FVec F S1024x4096 .f32) (main_arg4 : FVec F S1024x1024 .f32) : IVec S1x256x1024 1 × IVec S1024x1024 1 × IVec S1024x4096 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  (main_v2, main_v5, main_v8)
-- ==== Pre_finite_scores_ReferenceIdeal.lean ====
abbrev S1x256x1024 : Shape := ⟨3, ![1, 256, 1024]⟩
abbrev S1024x16384 : Shape := ⟨2, ![1024, 16384]⟩
abbrev S1024x4096 : Shape := ⟨2, ![1024, 4096]⟩
abbrev S16384x1024 : Shape := ⟨2, ![16384, 1024]⟩
abbrev S_ : Shape := ⟨0, ![]⟩

class Facts : Prop where
  bcast_S_S1x256x1024 : S_.BroadcastsInDim S1x256x1024 (![] : Fin 0 → Fin S1x256x1024.rank)
  bcast_S_S1024x16384 : S_.BroadcastsInDim S1024x16384 (![] : Fin 0 → Fin S1024x16384.rank)
  bcast_S_S1024x4096 : S_.BroadcastsInDim S1024x4096 (![] : Fin 0 → Fin S1024x4096.rank)

variable [Facts]

def fn {F : FTy → Type} [FloatOps F] (main_arg0 : FVec F S1x256x1024 .f32) (main_arg1 : FVec F S1024x16384 .f32) (main_arg2 : FVec F S1024x4096 .f32) (main_arg3 : FVec F S1024x4096 .f32) (main_arg4 : FVec F S16384x1024 .f32) : IVec S1x256x1024 1 × IVec S1024x16384 1 × IVec S1024x4096 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_v3 : FVec F S1024x16384 .f32 := Host.absf main_arg1
  let main_cst_0 : FVec F S_ .f32 := constant S_ .f32 0x7F800000#32
  let main_v4 : FVec F S1024x16384 .f32 := broadcastInDim S1024x16384 ![] bcast_S_S1024x16384 main_cst_0
  let main_v5 : IVec S1024x16384 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  (main_v2, main_v5, main_v8)
-- ==== Kernel.lean ====
abbrev S1x256x1024 : Shape := ⟨3, ![1, 256, 1024]⟩
abbrev S1024x1024 : Shape := ⟨2, ![1024, 1024]⟩
abbrev S1024x4096 : Shape := ⟨2, ![1024, 4096]⟩
abbrev S256x1024 : Shape := ⟨2, ![256, 1024]⟩
abbrev S16x16x1024 : Shape := ⟨3, ![16, 16, 1024]⟩
abbrev S16x1024 : Shape := ⟨2, ![16, 1024]⟩
abbrev S1024x256 : Shape := ⟨2, ![1024, 256]⟩
abbrev S4 : Shape := ⟨1, ![4]⟩
abbrev S2x16 : Shape := ⟨2, ![2, 16]⟩
abbrev S1 : Shape := ⟨1, ![1]⟩
abbrev S_ : Shape := ⟨0, ![]⟩
abbrev S256x256 : Shape := ⟨2, ![256, 256]⟩
abbrev S256x128 : Shape := ⟨2, ![256, 128]⟩
abbrev S1024x128 : Shape := ⟨2, ![1024, 128]⟩
abbrev S1024 : Shape := ⟨1, ![1024]⟩
abbrev S1024x1 : Shape := ⟨2, ![1024, 1]⟩
abbrev S1x1 : Shape := ⟨2, ![1, 1]⟩
abbrev S1x16x512 : Shape := ⟨3, ![1, 16, 512]⟩
abbrev S16x512 : Shape := ⟨2, ![16, 512]⟩

abbrev nBuf : Space → Nat
  | .hbm => 6
  | .vmem => 12
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1024x4096, .f32⟩
  | .hbm, ⟨3, _⟩ => ⟨S1024x4096, .f32⟩
  | .hbm, ⟨4, _⟩ => ⟨S1024x1024, .f32⟩
  | .hbm, ⟨5, _⟩ => ⟨S1x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .bf16⟩
  | .local _ .vmem, ⟨3, _⟩ => ⟨S256x1024, .f32⟩
  | .local _ .vmem, ⟨4, _⟩ => ⟨S256x1024, .bf16⟩
  | .local _ .vmem, ⟨5, _⟩ => ⟨S16x16x1024, .bf16⟩
  | .local _ .vmem, ⟨6, _⟩ => ⟨S16x1024, .bf16⟩
  | .local _ .vmem, ⟨7, _⟩ => ⟨S256x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x256, .f32⟩
  | .local _ .vmem, ⟨11, _⟩ => ⟨S1024x256, .f32⟩
  | _, _ => ⟨S1x256x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 134 → Bool
  | ⟨i, _⟩ => dmaSemScopedAt i

abbrev sig : RefSig :=
  (ofTc nBuf bufTy 1 134 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v3 : BitVec 32 := Scalar.muli v2 c256_i32
  ![0, v3.toNat]
def k0_dev1 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4 : BitVec 32 := 1#32
  let v16 : BitVec 32 := Scalar.xori v2 c1_i32_4
  let c1_i32_6 : BitVec 32 := 1#32
  let v17 : BitVec 32 := Scalar.muli v16 c1_i32_6
  let v18 : BitVec 32 := Scalar.addi c0_i32_7 v17
  v18.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_8 : BitVec 32 := 2#32
  let v19 : BitVec 32 := Scalar.xori v2 c2_i32_8
  let c1_i32_10 : BitVec 32 := 1#32
  let v20 : BitVec 32 := Scalar.muli v19 c1_i32_10
  let v21 : BitVec 32 := Scalar.addi c0_i32_11 v20
  v21.toNat
def k0_dev3 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_12 : BitVec 32 := 3#32
  let v22 : BitVec 32 := Scalar.xori v2 c3_i32_12
  let c1_i32_14 : BitVec 32 := 1#32
  let v23 : BitVec 32 := Scalar.muli v22 c1_i32_14
  let v24 : BitVec 32 := Scalar.addi c0_i32_15 v23
  v24.toNat
def k0_dev4 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v25 : BitVec 32 := Scalar.xori v2 c4_i32
  let c1_i32_17 : BitVec 32 := 1#32
  let v26 : BitVec 32 := Scalar.muli v25 c1_i32_17
  let v27 : BitVec 32 := Scalar.addi c0_i32_18 v26
  v27.toNat
def k0_dev5 (d0 : Dev nD) : Nat :=
  let c0_i32_21 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v28 : BitVec 32 := Scalar.xori v2 c5_i32
  let c1_i32_20 : BitVec 32 := 1#32
  let v29 : BitVec 32 := Scalar.muli v28 c1_i32_20
  let v30 : BitVec 32 := Scalar.addi c0_i32_21 v29
  v30.toNat
def k0_dev6 (d0 : Dev nD) : Nat :=
  let c0_i32_24 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v31 : BitVec 32 := Scalar.xori v2 c6_i32
  let c1_i32_23 : BitVec 32 := 1#32
  let v32 : BitVec 32 := Scalar.muli v31 c1_i32_23
  let v33 : BitVec 32 := Scalar.addi c0_i32_24 v32
  v33.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v34 : BitVec 32 := Scalar.xori v2 c7_i32
  let c1_i32_26 : BitVec 32 := 1#32
  let v35 : BitVec 32 := Scalar.muli v34 c1_i32_26
  let v36 : BitVec 32 := Scalar.addi c0_i32_27 v35
  v36.toNat
def k0_dev8 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v37 : BitVec 32 := Scalar.xori v2 c8_i32
  let c1_i32_29 : BitVec 32 := 1#32
  let v38 : BitVec 32 := Scalar.muli v37 c1_i32_29
  let v39 : BitVec 32 := Scalar.addi c0_i32_30 v38
  v39.toNat
def k0_dev9 (d0 : Dev nD) : Nat :=
  let c0_i32_33 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v40 : BitVec 32 := Scalar.xori v2 c9_i32
  let c1_i32_32 : BitVec 32 := 1#32
  let v41 : BitVec 32 := Scalar.muli v40 c1_i32_32
  let v42 : BitVec 32 := Scalar.addi c0_i32_33 v41
  v42.toNat
def k0_dev10 (d0 : Dev nD) : Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v43 : BitVec 32 := Scalar.xori v2 c10_i32
  let c1_i32_35 : BitVec 32 := 1#32
  let v44 : BitVec 32 := Scalar.muli v43 c1_i32_35
  let v45 : BitVec 32 := Scalar.addi c0_i32_36 v44
  v45.toNat
def k0_dev11 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v46 : BitVec 32 := Scalar.xori v2 c11_i32
  let c1_i32_38 : BitVec 32 := 1#32
  let v47 : BitVec 32 := Scalar.muli v46 c1_i32_38
  let v48 : BitVec 32 := Scalar.addi c0_i32_39 v47
  v48.toNat
def k0_dev12 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v49 : BitVec 32 := Scalar.xori v2 c12_i32
  let c1_i32_41 : BitVec 32 := 1#32
  let v50 : BitVec 32 := Scalar.muli v49 c1_i32_41
  let v51 : BitVec 32 := Scalar.addi c0_i32_42 v50
  v51.toNat
def k0_dev13 (d0 : Dev nD) : Nat :=
  let c0_i32_45 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.xori v2 c13_i32
  let c1_i32_44 : BitVec 32 := 1#32
  let v53 : BitVec 32 := Scalar.muli v52 c1_i32_44
  let v54 : BitVec 32 := Scalar.addi c0_i32_45 v53
  v54.toNat
def k0_dev14 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v55 : BitVec 32 := Scalar.xori v2 c14_i32
  let c1_i32_47 : BitVec 32 := 1#32
  let v56 : BitVec 32 := Scalar.muli v55 c1_i32_47
  let v57 : BitVec 32 := Scalar.addi c0_i32_48 v56
  v57.toNat
def k0_dev15 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v58 : BitVec 32 := Scalar.xori v2 c15_i32
  let c1_i32_50 : BitVec 32 := 1#32
  let v59 : BitVec 32 := Scalar.muli v58 c1_i32_50
  let v60 : BitVec 32 := Scalar.addi c0_i32_51 v59
  v60.toNat
def k0_off2 (d0 : Dev nD) (c1_i32_97 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v169 : BitVec 32 := Scalar.xori v2 c1_i32_97
  let c16_i32_98 : BitVec 32 := 16#32
  let v170 : BitVec 32 := Scalar.muli v169 c16_i32_98
  let c0_i32_108 : BitVec 32 := 0#32
  ![v170.toNat, 0]
def k0_dev16 (d0 : Dev nD) : Nat :=
  let c0_i32_105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_97 : BitVec 32 := 1#32
  let v169 : BitVec 32 := Scalar.xori v2 c1_i32_97
  let c1_i32_104 : BitVec 32 := 1#32
  let v171 : BitVec 32 := Scalar.muli v169 c1_i32_104
  let v172 : BitVec 32 := Scalar.addi c0_i32_105 v171
  v172.toNat
def k0_dev17 (d0 : Dev nD) : Nat :=
  let c0_i32_117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_109 : BitVec 32 := 2#32
  let v180 : BitVec 32 := Scalar.xori v2 c2_i32_109
  let c1_i32_116 : BitVec 32 := 1#32
  let v182 : BitVec 32 := Scalar.muli v180 c1_i32_116
  let v183 : BitVec 32 := Scalar.addi c0_i32_117 v182
  v183.toNat
def k0_dev18 (d0 : Dev nD) : Nat :=
  let c0_i32_129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_121 : BitVec 32 := 3#32
  let v191 : BitVec 32 := Scalar.xori v2 c3_i32_121
  let c1_i32_128 : BitVec 32 := 1#32
  let v193 : BitVec 32 := Scalar.muli v191 c1_i32_128
  let v194 : BitVec 32 := Scalar.addi c0_i32_129 v193
  v194.toNat
def k0_dev19 (d0 : Dev nD) : Nat :=
  let c0_i32_141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_133 : BitVec 32 := 4#32
  let v202 : BitVec 32 := Scalar.xori v2 c4_i32_133
  let c1_i32_140 : BitVec 32 := 1#32
  let v204 : BitVec 32 := Scalar.muli v202 c1_i32_140
  let v205 : BitVec 32 := Scalar.addi c0_i32_141 v204
  v205.toNat
def k0_dev20 (d0 : Dev nD) : Nat :=
  let c0_i32_153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_145 : BitVec 32 := 5#32
  let v213 : BitVec 32 := Scalar.xori v2 c5_i32_145
  let c1_i32_152 : BitVec 32 := 1#32
  let v215 : BitVec 32 := Scalar.muli v213 c1_i32_152
  let v216 : BitVec 32 := Scalar.addi c0_i32_153 v215
  v216.toNat
def k0_dev21 (d0 : Dev nD) : Nat :=
  let c0_i32_165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_157 : BitVec 32 := 6#32
  let v224 : BitVec 32 := Scalar.xori v2 c6_i32_157
  let c1_i32_164 : BitVec 32 := 1#32
  let v226 : BitVec 32 := Scalar.muli v224 c1_i32_164
  let v227 : BitVec 32 := Scalar.addi c0_i32_165 v226
  v227.toNat
def k0_dev22 (d0 : Dev nD) : Nat :=
  let c0_i32_177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_169 : BitVec 32 := 7#32
  let v235 : BitVec 32 := Scalar.xori v2 c7_i32_169
  let c1_i32_176 : BitVec 32 := 1#32
  let v237 : BitVec 32 := Scalar.muli v235 c1_i32_176
  let v238 : BitVec 32 := Scalar.addi c0_i32_177 v237
  v238.toNat
def k0_dev23 (d0 : Dev nD) : Nat :=
  let c0_i32_189 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_181 : BitVec 32 := 8#32
  let v246 : BitVec 32 := Scalar.xori v2 c8_i32_181
  let c1_i32_188 : BitVec 32 := 1#32
  let v248 : BitVec 32 := Scalar.muli v246 c1_i32_188
  let v249 : BitVec 32 := Scalar.addi c0_i32_189 v248
  v249.toNat
def k0_dev24 (d0 : Dev nD) : Nat :=
  let c0_i32_201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_193 : BitVec 32 := 9#32
  let v257 : BitVec 32 := Scalar.xori v2 c9_i32_193
  let c1_i32_200 : BitVec 32 := 1#32
  let v259 : BitVec 32 := Scalar.muli v257 c1_i32_200
  let v260 : BitVec 32 := Scalar.addi c0_i32_201 v259
  v260.toNat
def k0_dev25 (d0 : Dev nD) : Nat :=
  let c0_i32_213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_205 : BitVec 32 := 10#32
  let v268 : BitVec 32 := Scalar.xori v2 c10_i32_205
  let c1_i32_212 : BitVec 32 := 1#32
  let v270 : BitVec 32 := Scalar.muli v268 c1_i32_212
  let v271 : BitVec 32 := Scalar.addi c0_i32_213 v270
  v271.toNat
def k0_dev26 (d0 : Dev nD) : Nat :=
  let c0_i32_225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_217 : BitVec 32 := 11#32
  let v279 : BitVec 32 := Scalar.xori v2 c11_i32_217
  let c1_i32_224 : BitVec 32 := 1#32
  let v281 : BitVec 32 := Scalar.muli v279 c1_i32_224
  let v282 : BitVec 32 := Scalar.addi c0_i32_225 v281
  v282.toNat
def k0_dev27 (d0 : Dev nD) : Nat :=
  let c0_i32_237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_229 : BitVec 32 := 12#32
  let v290 : BitVec 32 := Scalar.xori v2 c12_i32_229
  let c1_i32_236 : BitVec 32 := 1#32
  let v292 : BitVec 32 := Scalar.muli v290 c1_i32_236
  let v293 : BitVec 32 := Scalar.addi c0_i32_237 v292
  v293.toNat
def k0_dev28 (d0 : Dev nD) : Nat :=
  let c0_i32_249 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_241 : BitVec 32 := 13#32
  let v301 : BitVec 32 := Scalar.xori v2 c13_i32_241
  let c1_i32_248 : BitVec 32 := 1#32
  let v303 : BitVec 32 := Scalar.muli v301 c1_i32_248
  let v304 : BitVec 32 := Scalar.addi c0_i32_249 v303
  v304.toNat
def k0_dev29 (d0 : Dev nD) : Nat :=
  let c0_i32_261 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_253 : BitVec 32 := 14#32
  let v312 : BitVec 32 := Scalar.xori v2 c14_i32_253
  let c1_i32_260 : BitVec 32 := 1#32
  let v314 : BitVec 32 := Scalar.muli v312 c1_i32_260
  let v315 : BitVec 32 := Scalar.addi c0_i32_261 v314
  v315.toNat
def k0_dev30 (d0 : Dev nD) : Nat :=
  let c0_i32_273 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_265 : BitVec 32 := 15#32
  let v323 : BitVec 32 := Scalar.xori v2 c15_i32_265
  let c1_i32_272 : BitVec 32 := 1#32
  let v325 : BitVec 32 := Scalar.muli v323 c1_i32_272
  let v326 : BitVec 32 := Scalar.addi c0_i32_273 v325
  v326.toNat
def k0_off3 (d0 : Dev nD) (c1_i32_277 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v334 : BitVec 32 := Scalar.xori v2 c1_i32_277
  let c16_i32_278 : BitVec 32 := 16#32
  let v335 : BitVec 32 := Scalar.muli v334 c16_i32_278
  let c512_i32_287 : BitVec 32 := 512#32
  ![v335.toNat, 512]
def k0_dev31 (d0 : Dev nD) : Nat :=
  let c0_i32_285 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_277 : BitVec 32 := 1#32
  let v334 : BitVec 32 := Scalar.xori v2 c1_i32_277
  let c1_i32_284 : BitVec 32 := 1#32
  let v336 : BitVec 32 := Scalar.muli v334 c1_i32_284
  let v337 : BitVec 32 := Scalar.addi c0_i32_285 v336
  v337.toNat
def k0_dev32 (d0 : Dev nD) : Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_288 : BitVec 32 := 2#32
  let v345 : BitVec 32 := Scalar.xori v2 c2_i32_288
  let c1_i32_295 : BitVec 32 := 1#32
  let v347 : BitVec 32 := Scalar.muli v345 c1_i32_295
  let v348 : BitVec 32 := Scalar.addi c0_i32_296 v347
  v348.toNat
def k0_dev33 (d0 : Dev nD) : Nat :=
  let c0_i32_308 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_300 : BitVec 32 := 3#32
  let v356 : BitVec 32 := Scalar.xori v2 c3_i32_300
  let c1_i32_307 : BitVec 32 := 1#32
  let v358 : BitVec 32 := Scalar.muli v356 c1_i32_307
  let v359 : BitVec 32 := Scalar.addi c0_i32_308 v358
  v359.toNat
def k0_dev34 (d0 : Dev nD) : Nat :=
  let c0_i32_320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_312 : BitVec 32 := 4#32
  let v367 : BitVec 32 := Scalar.xori v2 c4_i32_312
  let c1_i32_319 : BitVec 32 := 1#32
  let v369 : BitVec 32 := Scalar.muli v367 c1_i32_319
  let v370 : BitVec 32 := Scalar.addi c0_i32_320 v369
  v370.toNat
def k0_dev35 (d0 : Dev nD) : Nat :=
  let c0_i32_332 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_324 : BitVec 32 := 5#32
  let v378 : BitVec 32 := Scalar.xori v2 c5_i32_324
  let c1_i32_331 : BitVec 32 := 1#32
  let v380 : BitVec 32 := Scalar.muli v378 c1_i32_331
  let v381 : BitVec 32 := Scalar.addi c0_i32_332 v380
  v381.toNat
def k0_dev36 (d0 : Dev nD) : Nat :=
  let c0_i32_344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_336 : BitVec 32 := 6#32
  let v389 : BitVec 32 := Scalar.xori v2 c6_i32_336
  let c1_i32_343 : BitVec 32 := 1#32
  let v391 : BitVec 32 := Scalar.muli v389 c1_i32_343
  let v392 : BitVec 32 := Scalar.addi c0_i32_344 v391
  v392.toNat
def k0_dev37 (d0 : Dev nD) : Nat :=
  let c0_i32_356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_348 : BitVec 32 := 7#32
  let v400 : BitVec 32 := Scalar.xori v2 c7_i32_348
  let c1_i32_355 : BitVec 32 := 1#32
  let v402 : BitVec 32 := Scalar.muli v400 c1_i32_355
  let v403 : BitVec 32 := Scalar.addi c0_i32_356 v402
  v403.toNat
def k0_dev38 (d0 : Dev nD) : Nat :=
  let c0_i32_368 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_360 : BitVec 32 := 8#32
  let v411 : BitVec 32 := Scalar.xori v2 c8_i32_360
  let c1_i32_367 : BitVec 32 := 1#32
  let v413 : BitVec 32 := Scalar.muli v411 c1_i32_367
  let v414 : BitVec 32 := Scalar.addi c0_i32_368 v413
  v414.toNat
def k0_dev39 (d0 : Dev nD) : Nat :=
  let c0_i32_380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_372 : BitVec 32 := 9#32
  let v422 : BitVec 32 := Scalar.xori v2 c9_i32_372
  let c1_i32_379 : BitVec 32 := 1#32
  let v424 : BitVec 32 := Scalar.muli v422 c1_i32_379
  let v425 : BitVec 32 := Scalar.addi c0_i32_380 v424
  v425.toNat
def k0_dev40 (d0 : Dev nD) : Nat :=
  let c0_i32_392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_384 : BitVec 32 := 10#32
  let v433 : BitVec 32 := Scalar.xori v2 c10_i32_384
  let c1_i32_391 : BitVec 32 := 1#32
  let v435 : BitVec 32 := Scalar.muli v433 c1_i32_391
  let v436 : BitVec 32 := Scalar.addi c0_i32_392 v435
  v436.toNat
def k0_dev41 (d0 : Dev nD) : Nat :=
  let c0_i32_404 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_396 : BitVec 32 := 11#32
  let v444 : BitVec 32 := Scalar.xori v2 c11_i32_396
  let c1_i32_403 : BitVec 32 := 1#32
  let v446 : BitVec 32 := Scalar.muli v444 c1_i32_403
  let v447 : BitVec 32 := Scalar.addi c0_i32_404 v446
  v447.toNat
def k0_dev42 (d0 : Dev nD) : Nat :=
  let c0_i32_416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_408 : BitVec 32 := 12#32
  let v455 : BitVec 32 := Scalar.xori v2 c12_i32_408
  let c1_i32_415 : BitVec 32 := 1#32
  let v457 : BitVec 32 := Scalar.muli v455 c1_i32_415
  let v458 : BitVec 32 := Scalar.addi c0_i32_416 v457
  v458.toNat
def k0_dev43 (d0 : Dev nD) : Nat :=
  let c0_i32_428 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_420 : BitVec 32 := 13#32
  let v466 : BitVec 32 := Scalar.xori v2 c13_i32_420
  let c1_i32_427 : BitVec 32 := 1#32
  let v468 : BitVec 32 := Scalar.muli v466 c1_i32_427
  let v469 : BitVec 32 := Scalar.addi c0_i32_428 v468
  v469.toNat
def k0_dev44 (d0 : Dev nD) : Nat :=
  let c0_i32_440 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_432 : BitVec 32 := 14#32
  let v477 : BitVec 32 := Scalar.xori v2 c14_i32_432
  let c1_i32_439 : BitVec 32 := 1#32
  let v479 : BitVec 32 := Scalar.muli v477 c1_i32_439
  let v480 : BitVec 32 := Scalar.addi c0_i32_440 v479
  v480.toNat
def k0_dev45 (d0 : Dev nD) : Nat :=
  let c0_i32_452 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_444 : BitVec 32 := 15#32
  let v488 : BitVec 32 := Scalar.xori v2 c15_i32_444
  let c1_i32_451 : BitVec 32 := 1#32
  let v490 : BitVec 32 := Scalar.muli v488 c1_i32_451
  let v491 : BitVec 32 := Scalar.addi c0_i32_452 v490
  v491.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_456 : BitVec 32 := 16#32
  let v499 : BitVec 32 := Scalar.muli v2 c16_i32_456
  let v500 : Index := Scalar.indexCast v499
  let c0_457 : Index := 0#32
  ![v500.toNat, 0]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_641 : BitVec 32 := 16#32
  let v672 : BitVec 32 := Scalar.muli v2 c16_i32_641
  let c0_i32_648 : BitVec 32 := 0#32
  ![v672.toNat, 0]
def k0_dev46 (d0 : Dev nD) : Nat :=
  let c0_i32_647 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_640 : BitVec 32 := 1#32
  let v671 : BitVec 32 := Scalar.xori v2 c1_i32_640
  let c1_i32_646 : BitVec 32 := 1#32
  let v673 : BitVec 32 := Scalar.muli v671 c1_i32_646
  let v674 : BitVec 32 := Scalar.addi c0_i32_647 v673
  v674.toNat
def k0_dev47 (d0 : Dev nD) : Nat :=
  let c0_i32_658 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_651 : BitVec 32 := 2#32
  let v681 : BitVec 32 := Scalar.xori v2 c2_i32_651
  let c1_i32_657 : BitVec 32 := 1#32
  let v683 : BitVec 32 := Scalar.muli v681 c1_i32_657
  let v684 : BitVec 32 := Scalar.addi c0_i32_658 v683
  v684.toNat
def k0_dev48 (d0 : Dev nD) : Nat :=
  let c0_i32_669 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_662 : BitVec 32 := 3#32
  let v691 : BitVec 32 := Scalar.xori v2 c3_i32_662
  let c1_i32_668 : BitVec 32 := 1#32
  let v693 : BitVec 32 := Scalar.muli v691 c1_i32_668
  let v694 : BitVec 32 := Scalar.addi c0_i32_669 v693
  v694.toNat
def k0_dev49 (d0 : Dev nD) : Nat :=
  let c0_i32_680 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_673 : BitVec 32 := 4#32
  let v701 : BitVec 32 := Scalar.xori v2 c4_i32_673
  let c1_i32_679 : BitVec 32 := 1#32
  let v703 : BitVec 32 := Scalar.muli v701 c1_i32_679
  let v704 : BitVec 32 := Scalar.addi c0_i32_680 v703
  v704.toNat
def k0_dev50 (d0 : Dev nD) : Nat :=
  let c0_i32_691 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_684 : BitVec 32 := 5#32
  let v711 : BitVec 32 := Scalar.xori v2 c5_i32_684
  let c1_i32_690 : BitVec 32 := 1#32
  let v713 : BitVec 32 := Scalar.muli v711 c1_i32_690
  let v714 : BitVec 32 := Scalar.addi c0_i32_691 v713
  v714.toNat
def k0_dev51 (d0 : Dev nD) : Nat :=
  let c0_i32_702 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_695 : BitVec 32 := 6#32
  let v721 : BitVec 32 := Scalar.xori v2 c6_i32_695
  let c1_i32_701 : BitVec 32 := 1#32
  let v723 : BitVec 32 := Scalar.muli v721 c1_i32_701
  let v724 : BitVec 32 := Scalar.addi c0_i32_702 v723
  v724.toNat
def k0_dev52 (d0 : Dev nD) : Nat :=
  let c0_i32_713 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_706 : BitVec 32 := 7#32
  let v731 : BitVec 32 := Scalar.xori v2 c7_i32_706
  let c1_i32_712 : BitVec 32 := 1#32
  let v733 : BitVec 32 := Scalar.muli v731 c1_i32_712
  let v734 : BitVec 32 := Scalar.addi c0_i32_713 v733
  v734.toNat
def k0_dev53 (d0 : Dev nD) : Nat :=
  let c0_i32_724 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_717 : BitVec 32 := 8#32
  let v741 : BitVec 32 := Scalar.xori v2 c8_i32_717
  let c1_i32_723 : BitVec 32 := 1#32
  let v743 : BitVec 32 := Scalar.muli v741 c1_i32_723
  let v744 : BitVec 32 := Scalar.addi c0_i32_724 v743
  v744.toNat
def k0_dev54 (d0 : Dev nD) : Nat :=
  let c0_i32_735 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_728 : BitVec 32 := 9#32
  let v751 : BitVec 32 := Scalar.xori v2 c9_i32_728
  let c1_i32_734 : BitVec 32 := 1#32
  let v753 : BitVec 32 := Scalar.muli v751 c1_i32_734
  let v754 : BitVec 32 := Scalar.addi c0_i32_735 v753
  v754.toNat
def k0_dev55 (d0 : Dev nD) : Nat :=
  let c0_i32_746 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_739 : BitVec 32 := 10#32
  let v761 : BitVec 32 := Scalar.xori v2 c10_i32_739
  let c1_i32_745 : BitVec 32 := 1#32
  let v763 : BitVec 32 := Scalar.muli v761 c1_i32_745
  let v764 : BitVec 32 := Scalar.addi c0_i32_746 v763
  v764.toNat
def k0_dev56 (d0 : Dev nD) : Nat :=
  let c0_i32_757 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_750 : BitVec 32 := 11#32
  let v771 : BitVec 32 := Scalar.xori v2 c11_i32_750
  let c1_i32_756 : BitVec 32 := 1#32
  let v773 : BitVec 32 := Scalar.muli v771 c1_i32_756
  let v774 : BitVec 32 := Scalar.addi c0_i32_757 v773
  v774.toNat
def k0_dev57 (d0 : Dev nD) : Nat :=
  let c0_i32_768 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_761 : BitVec 32 := 12#32
  let v781 : BitVec 32 := Scalar.xori v2 c12_i32_761
  let c1_i32_767 : BitVec 32 := 1#32
  let v783 : BitVec 32 := Scalar.muli v781 c1_i32_767
  let v784 : BitVec 32 := Scalar.addi c0_i32_768 v783
  v784.toNat
def k0_dev58 (d0 : Dev nD) : Nat :=
  let c0_i32_779 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_772 : BitVec 32 := 13#32
  let v791 : BitVec 32 := Scalar.xori v2 c13_i32_772
  let c1_i32_778 : BitVec 32 := 1#32
  let v793 : BitVec 32 := Scalar.muli v791 c1_i32_778
  let v794 : BitVec 32 := Scalar.addi c0_i32_779 v793
  v794.toNat
def k0_dev59 (d0 : Dev nD) : Nat :=
  let c0_i32_790 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_783 : BitVec 32 := 14#32
  let v801 : BitVec 32 := Scalar.xori v2 c14_i32_783
  let c1_i32_789 : BitVec 32 := 1#32
  let v803 : BitVec 32 := Scalar.muli v801 c1_i32_789
  let v804 : BitVec 32 := Scalar.addi c0_i32_790 v803
  v804.toNat
def k0_dev60 (d0 : Dev nD) : Nat :=
  let c0_i32_801 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_794 : BitVec 32 := 15#32
  let v811 : BitVec 32 := Scalar.xori v2 c15_i32_794
  let c1_i32_800 : BitVec 32 := 1#32
  let v813 : BitVec 32 := Scalar.muli v811 c1_i32_800
  let v814 : BitVec 32 := Scalar.addi c0_i32_801 v813
  v814.toNat
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_805 : BitVec 32 := 16#32
  let v821 : BitVec 32 := Scalar.muli v2 c16_i32_805
  let v822 : Index := Scalar.indexCast v821
  let c512_806 : Index := 512#32
  ![v822.toNat, 512]
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_1005 : BitVec 32 := 16#32
  let v994 : BitVec 32 := Scalar.muli v2 c16_i32_1005
  let c512_i32_1012 : BitVec 32 := 512#32
  ![v994.toNat, 512]
def k0_dev61 (d0 : Dev nD) : Nat :=
  let c0_i32_1011 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1004 : BitVec 32 := 1#32
  let v993 : BitVec 32 := Scalar.xori v2 c1_i32_1004
  let c1_i32_1010 : BitVec 32 := 1#32
  let v995 : BitVec 32 := Scalar.muli v993 c1_i32_1010
  let v996 : BitVec 32 := Scalar.addi c0_i32_1011 v995
  v996.toNat
def k0_dev62 (d0 : Dev nD) : Nat :=
  let c0_i32_1022 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1015 : BitVec 32 := 2#32
  let v1003 : BitVec 32 := Scalar.xori v2 c2_i32_1015
  let c1_i32_1021 : BitVec 32 := 1#32
  let v1005 : BitVec 32 := Scalar.muli v1003 c1_i32_1021
  let v1006 : BitVec 32 := Scalar.addi c0_i32_1022 v1005
  v1006.toNat
def k0_dev63 (d0 : Dev nD) : Nat :=
  let c0_i32_1033 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1026 : BitVec 32 := 3#32
  let v1013 : BitVec 32 := Scalar.xori v2 c3_i32_1026
  let c1_i32_1032 : BitVec 32 := 1#32
  let v1015 : BitVec 32 := Scalar.muli v1013 c1_i32_1032
  let v1016 : BitVec 32 := Scalar.addi c0_i32_1033 v1015
  v1016.toNat
def k0_dev64 (d0 : Dev nD) : Nat :=
  let c0_i32_1044 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1037 : BitVec 32 := 4#32
  let v1023 : BitVec 32 := Scalar.xori v2 c4_i32_1037
  let c1_i32_1043 : BitVec 32 := 1#32
  let v1025 : BitVec 32 := Scalar.muli v1023 c1_i32_1043
  let v1026 : BitVec 32 := Scalar.addi c0_i32_1044 v1025
  v1026.toNat
def k0_dev65 (d0 : Dev nD) : Nat :=
  let c0_i32_1055 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1048 : BitVec 32 := 5#32
  let v1033 : BitVec 32 := Scalar.xori v2 c5_i32_1048
  let c1_i32_1054 : BitVec 32 := 1#32
  let v1035 : BitVec 32 := Scalar.muli v1033 c1_i32_1054
  let v1036 : BitVec 32 := Scalar.addi c0_i32_1055 v1035
  v1036.toNat
def k0_dev66 (d0 : Dev nD) : Nat :=
  let c0_i32_1066 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1059 : BitVec 32 := 6#32
  let v1043 : BitVec 32 := Scalar.xori v2 c6_i32_1059
  let c1_i32_1065 : BitVec 32 := 1#32
  let v1045 : BitVec 32 := Scalar.muli v1043 c1_i32_1065
  let v1046 : BitVec 32 := Scalar.addi c0_i32_1066 v1045
  v1046.toNat
def k0_dev67 (d0 : Dev nD) : Nat :=
  let c0_i32_1077 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1070 : BitVec 32 := 7#32
  let v1053 : BitVec 32 := Scalar.xori v2 c7_i32_1070
  let c1_i32_1076 : BitVec 32 := 1#32
  let v1055 : BitVec 32 := Scalar.muli v1053 c1_i32_1076
  let v1056 : BitVec 32 := Scalar.addi c0_i32_1077 v1055
  v1056.toNat
def k0_dev68 (d0 : Dev nD) : Nat :=
  let c0_i32_1088 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1081 : BitVec 32 := 8#32
  let v1063 : BitVec 32 := Scalar.xori v2 c8_i32_1081
  let c1_i32_1087 : BitVec 32 := 1#32
  let v1065 : BitVec 32 := Scalar.muli v1063 c1_i32_1087
  let v1066 : BitVec 32 := Scalar.addi c0_i32_1088 v1065
  v1066.toNat
def k0_dev69 (d0 : Dev nD) : Nat :=
  let c0_i32_1099 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1092 : BitVec 32 := 9#32
  let v1073 : BitVec 32 := Scalar.xori v2 c9_i32_1092
  let c1_i32_1098 : BitVec 32 := 1#32
  let v1075 : BitVec 32 := Scalar.muli v1073 c1_i32_1098
  let v1076 : BitVec 32 := Scalar.addi c0_i32_1099 v1075
  v1076.toNat
def k0_dev70 (d0 : Dev nD) : Nat :=
  let c0_i32_1110 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1103 : BitVec 32 := 10#32
  let v1083 : BitVec 32 := Scalar.xori v2 c10_i32_1103
  let c1_i32_1109 : BitVec 32 := 1#32
  let v1085 : BitVec 32 := Scalar.muli v1083 c1_i32_1109
  let v1086 : BitVec 32 := Scalar.addi c0_i32_1110 v1085
  v1086.toNat
def k0_dev71 (d0 : Dev nD) : Nat :=
  let c0_i32_1121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1114 : BitVec 32 := 11#32
  let v1093 : BitVec 32 := Scalar.xori v2 c11_i32_1114
  let c1_i32_1120 : BitVec 32 := 1#32
  let v1095 : BitVec 32 := Scalar.muli v1093 c1_i32_1120
  let v1096 : BitVec 32 := Scalar.addi c0_i32_1121 v1095
  v1096.toNat
def k0_dev72 (d0 : Dev nD) : Nat :=
  let c0_i32_1132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1125 : BitVec 32 := 12#32
  let v1103 : BitVec 32 := Scalar.xori v2 c12_i32_1125
  let c1_i32_1131 : BitVec 32 := 1#32
  let v1105 : BitVec 32 := Scalar.muli v1103 c1_i32_1131
  let v1106 : BitVec 32 := Scalar.addi c0_i32_1132 v1105
  v1106.toNat
def k0_dev73 (d0 : Dev nD) : Nat :=
  let c0_i32_1143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1136 : BitVec 32 := 13#32
  let v1113 : BitVec 32 := Scalar.xori v2 c13_i32_1136
  let c1_i32_1142 : BitVec 32 := 1#32
  let v1115 : BitVec 32 := Scalar.muli v1113 c1_i32_1142
  let v1116 : BitVec 32 := Scalar.addi c0_i32_1143 v1115
  v1116.toNat
def k0_dev74 (d0 : Dev nD) : Nat :=
  let c0_i32_1154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1147 : BitVec 32 := 14#32
  let v1123 : BitVec 32 := Scalar.xori v2 c14_i32_1147
  let c1_i32_1153 : BitVec 32 := 1#32
  let v1125 : BitVec 32 := Scalar.muli v1123 c1_i32_1153
  let v1126 : BitVec 32 := Scalar.addi c0_i32_1154 v1125
  v1126.toNat
def k0_dev75 (d0 : Dev nD) : Nat :=
  let c0_i32_1165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1158 : BitVec 32 := 15#32
  let v1133 : BitVec 32 := Scalar.xori v2 c15_i32_1158
  let c1_i32_1164 : BitVec 32 := 1#32
  let v1135 : BitVec 32 := Scalar.muli v1133 c1_i32_1164
  let v1136 : BitVec 32 := Scalar.addi c0_i32_1165 v1135
  v1136.toNat
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_1171 : BitVec 32 := 16#32
  let v1144 : BitVec 32 := Scalar.muli v2 c16_i32_1171
  let v1145 : Index := Scalar.indexCast v1144
  let c0_1172 : Index := 0#32
  ![v1145.toNat, 0]
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1x256x1024 : Shape := ⟨3, ![1, 256, 1024]⟩
abbrev S1024x16384 : Shape := ⟨2, ![1024, 16384]⟩
abbrev S1024x4096 : Shape := ⟨2, ![1024, 4096]⟩
abbrev S16384x1024 : Shape := ⟨2, ![16384, 1024]⟩
abbrev S1x256x16384 : Shape := ⟨3, ![1, 256, 16384]⟩
abbrev S1x256x128x128 : Shape := ⟨4, ![1, 256, 128, 128]⟩
abbrev S1x256x4096 : Shape := ⟨3, ![1, 256, 4096]⟩
abbrev S1x256x32x128 : Shape := ⟨4, ![1, 256, 32, 128]⟩
abbrev S1x256x32x4x128 : Shape := ⟨5, ![1, 256, 32, 4, 128]⟩
abbrev S_ : Shape := ⟨0, ![]⟩
abbrev S1x128x256x1 : Shape := ⟨4, ![1, 128, 256, 1]⟩
abbrev S1x128x256x256 : Shape := ⟨4, ![1, 128, 256, 256]⟩
abbrev S1x128x256 : Shape := ⟨3, ![1, 128, 256]⟩
abbrev S1x256x128x1 : Shape := ⟨4, ![1, 256, 128, 1]⟩
abbrev S1x128x128x256 : Shape := ⟨4, ![1, 128, 128, 256]⟩

abbrev nBuf : Space → Nat
  | .hbm => 50
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1024x16384, .f32⟩
  | .hbm, ⟨2, _⟩ => ⟨S1024x4096, .f32⟩
  | .hbm, ⟨3, _⟩ => ⟨S1024x4096, .f32⟩
  | .hbm, ⟨4, _⟩ => ⟨S16384x1024, .f32⟩
  | .hbm, ⟨5, _⟩ => ⟨S1x256x16384, .f32⟩
  | .hbm, ⟨6, _⟩ => ⟨S1x256x128x128, .f32⟩
  | .hbm, ⟨7, _⟩ => ⟨S1x256x4096, .f32⟩
  | .hbm, ⟨8, _⟩ => ⟨S1x256x32x128, .f32⟩
  | .hbm, ⟨9, _⟩ => ⟨S1x256x4096, .f32⟩
  | .hbm, ⟨10, _⟩ => ⟨S1x256x32x128, .f32⟩
  | .hbm, ⟨11, _⟩ => ⟨S1x256x32x4x128, .f32⟩
  | .hbm, ⟨12, _⟩ => ⟨S1x256x128x128, .f32⟩
  | .hbm, ⟨13, _⟩ => ⟨S1x256x32x4x128, .f32⟩
  | .hbm, ⟨14, _⟩ => ⟨S1x256x128x128, .f32⟩
  | .hbm, ⟨15, _⟩ => ⟨S_, .f32⟩
  | .hbm, ⟨16, _⟩ => ⟨S1x256x128x128, .f32⟩
  | .hbm, ⟨17, _⟩ => ⟨S_, .f32⟩
  | .hbm, ⟨18, _⟩ => ⟨S1x128x256x1, .f32⟩
  | .hbm, ⟨19, _⟩ => ⟨S_, .f32⟩
  | .hbm, ⟨20, _⟩ => ⟨S1x128x256x1, .f32⟩
  | .hbm, ⟨21, _⟩ => ⟨S1x128x256x256, .f32⟩
  | .hbm, ⟨22, _⟩ => ⟨S_, .f32⟩
  | .hbm, ⟨23, _⟩ => ⟨S1x128x256x256, .f32⟩
  | .hbm, ⟨24, _⟩ => ⟨S1x128x256x256, .f32⟩
  | .hbm, ⟨25, _⟩ => ⟨S_, .f32⟩
  | .hbm, ⟨26, _⟩ => ⟨S1x128x256, .f32⟩
  | .hbm, ⟨27, _⟩ => ⟨S1x128x256x1, .f32⟩
  | .hbm, ⟨28, _⟩ => ⟨S1x128x256x1, .f32⟩
  | .hbm, ⟨29, _⟩ => ⟨S1x128x256x1, .f32⟩
  | .hbm, ⟨30, _⟩ => ⟨S1x128x256x1, .f32⟩
  | .hbm, ⟨31, _⟩ => ⟨S1x128x256x256, .f32⟩
  | .hbm, ⟨32, _⟩ => ⟨S1x128x256x256, .f32⟩
  | .hbm, ⟨33, _⟩ => ⟨S1x128x256x256, .f32⟩
  | .hbm, ⟨34, _⟩ => ⟨S1x128x256x1, .f32⟩
  | .hbm, ⟨35, _⟩ => ⟨S_, .f32⟩
  | .hbm, ⟨36, _⟩ => ⟨S1x128x256, .f32⟩
  | .hbm, ⟨37, _⟩ => ⟨S1x128x256x1, .f32⟩
  | .hbm, ⟨38, _⟩ => ⟨S1x128x256x1, .f32⟩
  | .hbm, ⟨39, _⟩ => ⟨S1x256x128x1, .f32⟩
  | .hbm, ⟨40, _⟩ => ⟨S1x256x128x128, .f32⟩
  | .hbm, ⟨41, _⟩ => ⟨S1x256x128x128, .f32⟩
  | .hbm, ⟨42, _⟩ => ⟨S1x128x128x256, .f32⟩
  | .hbm, ⟨43, _⟩ => ⟨S1x256x128x128, .f32⟩
  | .hbm, ⟨44, _⟩ => ⟨S1x256x128x128, .f32⟩
  | .hbm, ⟨45, _⟩ => ⟨S1x256x128x1, .f32⟩
  | .hbm, ⟨46, _⟩ => ⟨S1x256x128x128, .f32⟩
  | .hbm, ⟨47, _⟩ => ⟨S1x256x128x128, .f32⟩
  | .hbm, ⟨48, _⟩ => ⟨S1x256x16384, .f32⟩
  | .hbm, ⟨49, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Proof.Prog.lean ====
/- The kernel's body, written again as loops over the fifteen partners and the two halves of the lanes.
   The equation at the end says that it is the very text of the kernel. -/
module

public import proofs.«01_k».proof.Proof.Gen.KernelIdeal.Skeleton
public import proofs.«01_k».proof.Proof.Gen.KernelIdeal.Points

@[expose] public section

noncomputable section

namespace Cert.KernelIdeal.Pf

open Idealize.ShloMosaic Idealize.SL.Sem Cert.KernelIdeal Cert.KernelIdeal.Gen

variable {F : FTy → Type} [FloatOps F]

/-! ## The pieces a loop runs over -/

/-- The fifteen partners in the kernel's order: partner `r` of device `c` is device `c xor (1 + r)`. -/
def parts : List (Fin 15) := [0, 1, 2, 3, 4, 5, 6, 7, 8, 9, 10, 11, 12, 13, 14]

/-- The partner's number as the kernel computes it. -/
def devWord (d : Dev nD) (r : Fin 15) : Nat :=
  (Scalar.addi 0#32 (Scalar.muli (Scalar.xori (Scalar.remsi (Scalar.divsi (Dev.word d) 1#32) 16#32)
    (BitVec.ofNat 32 (1 + r.val))) 1#32)).toNat

theorem devWord_lt : ∀ (d : Dev nD) (r : Fin 15), devWord d r < nD := by decide +kernel

/-- Partner `r` of device `d`, as the kernel names it. -/
def devOf (d : Dev nD) (r : Fin 15) : Dev nD := ⟨devWord d r, devWord_lt d r⟩

/-- The corner of the piece of the partial product sent to partner `r`, half `h`. -/
def sOff (h : Fin 2) (d : Dev nD) (r : Fin 15) : Fin 2 → Nat :=
  match h with
  | 0 => k0_off2 d (BitVec.ofNat 32 (1 + r.val))
  | 1 => k0_off3 d (BitVec.ofNat 32 (1 + r.val))

/-- The corner of a device's own rows of the sum, half `h`. -/
def aOff (h : Fin 2) (d : Dev nD) : Fin 2 → Nat :=
  match h with
  | 0 => k0_off4 d
  | 1 => k0_off6 d

/-- The corner of a device's own rows in the gathered result, half `h`. -/
def gOff (h : Fin 2) (d : Dev nD) : Fin 2 → Nat :=
  match h with
  | 0 => k0_off5 d
  | 1 => k0_off7 d

theorem sOff_inb : ∀ (h : Fin 2) (d : Dev nD) (r : Fin 15) a, sOff h d r a + S16x512.size a ≤ S256x1024.size a := by
  decide +kernel
theorem sOff_words : ∀ (h : Fin 2) (d : Dev nD) (r : Fin 15),
    (Rect.unit (s := S256x1024) (sOff h d r) S16x512.size (sOff_inb h d r)).WholeWords (EltTy.packing .bf16) := by
  decide +kernel
theorem aOff_inb : ∀ (h : Fin 2) (d : Dev nD) a, aOff h d a + S16x512.size a ≤ S256x1024.size a := by
  decide +kernel
theorem gOff_inb : ∀ (h : Fin 2) (d : Dev nD) a, gOff h d a + S16x512.size a ≤ S256x1024.size a := by
  decide +kernel
theorem gOff_words : ∀ (h : Fin 2) (d : Dev nD),
    (Rect.unit (s := S256x1024) (gOff h d) S16x512.size (gOff_inb h d)).WholeWords (EltTy.packing .bf16) := by
  decide +kernel

theorem slot_inb : ∀ (h : Fin 2) (r : Fin 15) a,
    (![1 + r.val, 0, 512 * h.val] : Fin 3 → Nat) a + S1x16x512.size a ≤ S16x16x1024.size a := by decide +kernel
theorem slot_words : ∀ (h : Fin 2) (r : Fin 15),
    (Rect.unit (s := S16x16x1024) ![1 + r.val, 0, 512 * h.val] S1x16x512.size (slot_inb h r)).WholeWords
      (EltTy.packing .bf16) := by decide +kernel
theorem red_inb : ∀ (h : Fin 2) a,
    (![0, 512 * h.val] : Fin 2 → Nat) a + S16x512.size a ≤ S16x1024.size a := by decide +kernel
theorem red_words : ∀ (h : Fin 2),
    (Rect.unit (s := S16x1024) ![0, 512 * h.val] S16x512.size (red_inb h)).WholeWords (EltTy.packing .bf16) := by
  decide +kernel
theorem red_packed : ∀ (h : Fin 2),
    (Rect.unit (s := S16x1024) ![0, 512 * h.val] S16x512.size (red_inb h)).PackedRows (EltTy.packing .bf16) := by
  decide +kernel
theorem head_inb : ∀ (j : Fin 8) a,
    (![0, 128 * j.val] : Fin 2 → Nat) a + S256x128.size a ≤ S256x1024.size a := by decide +kernel
theorem head_packed : ∀ (j : Fin 8),
    (Rect.unit (s := S256x1024) ![0, 128 * j.val] S256x128.size (head_inb j)).PackedRows (EltTy.packing .bf16) := by
  decide +kernel
theorem sem_inb : ∀ (h : Fin 2) (r : Fin 15) a,
    (![h.val, 1 + r.val] : Fin 2 → Nat) a + S1x1.size a ≤ S2x16.size a := by decide +kernel
theorem cp_inb : ∀ (j : Fin 4) a, (![j.val] : Fin 1 → Nat) a + S1.size a ≤ S4.size a := by decide +kernel

/-- The semaphore of half `h` and partner `r` in one of the four tables. -/
def semAt (A : DmaSems sig S2x16) (h : Fin 2) (r : Fin 15) : DmaSem sig :=
  ((A.slice (Rect.unit (s := S2x16) ![h.val, 1 + r.val] S1x1.size (sem_inb h r))).squeeze S_ squeezes_S1x1_S_).sem

/-- The semaphore of local copy `j`. -/
def cpSem (j : Fin 4) : DmaSem sig :=
  ((cc0_scratch10.slice (Rect.unit (s := S4) ![j.val] S1.size (cp_inb j))).squeeze S_ squeezes_S1_S_).sem

/-- The barrier's semaphore. -/
def barSem : Sem sig := (SemArray.scalar (sig.barrier 0 rfl) : Sems sig S_).sem

/-- The piece of the send buffer that goes to partner `r`, half `h`. -/
def sendW (h : Fin 2) (d : Dev nD) (r : Fin 15) : Memref sig .tc .vmem S16x512 .bf16 :=
  (Memref.whole cc0_scratch2).slice (Rect.unit (s := S256x1024) (sOff h d r) S16x512.size (sOff_inb h d r)) (fun _ => rfl)

/-- The landing slot of partner `r`, half `h`. -/
def slotW (h : Fin 2) (r : Fin 15) : Memref sig .tc .vmem S16x512 .bf16 :=
  ((Memref.whole cc0_scratch3).slice (Rect.unit (s := S16x16x1024) ![1 + r.val, 0, 512 * h.val] S1x16x512.size (slot_inb h r))
    (fun _ => rfl)).squeeze S16x512 squeezes_S1x16x512_S16x512

/-- Half `h` of the summed rows. -/
def redW (h : Fin 2) : Memref sig .tc .vmem S16x512 .bf16 :=
  (Memref.whole cc0_scratch4).slice (Rect.unit (s := S16x1024) ![0, 512 * h.val] S16x512.size (red_inb h)) (fun _ => rfl)

/-- Half `h` of device `d`'s rows of the gathered result. -/
def gatW (h : Fin 2) (d : Dev nD) : Memref sig .tc .vmem S16x512 .bf16 :=
  (Memref.whole cc0_scratch5).slice (Rect.unit (s := S256x1024) (gOff h d) S16x512.size (gOff_inb h d)) (fun _ => rfl)

/-- Device `d`'s 256 columns of a key or value weight. -/
def kvW (b : Memref sig .tc .hbm S1024x4096 .f32) (d : Dev nD) : Memref sig .tc .hbm S1024x256 .f32 :=
  b.slice (Rect.unit (s := S1024x4096) (k0_off1 d) S1024x256.size (k0_off1_inb d)) (fun _ => rfl)

/-! ## The body as loops -/

/-- The type of the kernel's body. -/
abbrev Body (F : FTy → Type) := Prog (TpuEff nD τ sig (Elt F) Λ₀ .tc) PUnit

/-- One after another over a list, then the rest. -/
def seqL {α : Type} (b : α → Body F → Body F) : List α → Body F → Body F
  | [], k => k
  | a :: l, k => b a (seqL b l k)

/-- One after another over a list with a value carried along, then the rest. -/
def accL {α β : Type} (b : α → β → (β → Body F) → Body F) : List α → β → (β → Body F) → Body F
  | [], x, k => k x
  | a :: l, x, k => b a x (fun y => accL b l y k)

/-- Signal partner `r`'s barrier. -/
def sigP (d : Dev nD) (r : Fin 15) (k : Body F) : Body F :=
  semSignalWord (devOf d r) barSem 1#32 >>= fun _ => k

/-- Send partner `r` its rows of the partial product, half `h`. -/
def send1P (h : Fin 2) (d : Dev nD) (r : Fin 15) (k : Body F) : Body F :=
  .op (.enqueueDma (sendW h d r) (.remote (Dev.tc (devOf d r)) (slotW h r) (.dma (semAt cc0_scratch11 h r)))
      (.dma (semAt cc0_scratch12 h r)) ((Memref.isWhole_whole _).wordExact_slice rfl _ (sOff_words h d r))
      (((Memref.isWhole_whole _).wordExact_slice rfl _ (slot_words h r)).reshape _ _) ⟨⟨rfl, Or.inl rfl⟩, trivial⟩)
    fun _ => k

/-- Send partner `r` the summed rows, half `h`. -/
def send2P (h : Fin 2) (d : Dev nD) (r : Fin 15) (k : Body F) : Body F :=
  .op (.enqueueDma (redW h) (.remote (Dev.tc (devOf d r)) (gatW h d) (.dma (semAt cc0_scratch13 h r)))
      (.dma (semAt cc0_scratch14 h r)) ((Memref.isWhole_whole _).wordExact_slice rfl _ (red_words h))
      ((Memref.isWhole_whole _).wordExact_slice rfl _ (gOff_words h d)) ⟨⟨rfl, Or.inl rfl⟩, trivial⟩)
    fun _ => k

/-- Wait for partner `r`'s rows, half `h`, and add them to the running sum. -/
def recv1P (h : Fin 2) (d : Dev nD) (r : Fin 15) (a : FVec F S16x512 .f32) (k : FVec F S16x512 .f32 → Body F) : Body F :=
  .op (.waitDma2 (semAt cc0_scratch12 h r) (sendW h d r) (slotW h r)
      ((Memref.isWhole_whole _).wordExact_slice rfl _ (sOff_words h d r))
      (((Memref.isWhole_whole _).wordExact_slice rfl _ (slot_words h r)).reshape _ _)) fun _ =>
  .op (.load (Memref.whole cc0_scratch3) (Rect.unit (s := S16x16x1024) ![1 + r.val, 0, 512 * h.val] S1x16x512.size (slot_inb h r)).toLoadRect
      (View.loadsAt_vmem h_S1x16x512)) fun (v : Vec F S1x16x512 .bf16) =>
  k (addf a (extf .f32 (shapeCast S16x512 v shapeCasts_S1x16x512_S16x512) bitsLt_bf16_f32))

/-- Wait until the rows sent to partner `r`, half `h`, have left. -/
def wsend1P (h : Fin 2) (d : Dev nD) (r : Fin 15) (k : Body F) : Body F :=
  .op (.waitDma2 (semAt cc0_scratch11 h r) (slotW h r) (sendW h d r)
      (((Memref.isWhole_whole _).wordExact_slice rfl _ (slot_words h r)).reshape _ _)
      ((Memref.isWhole_whole _).wordExact_slice rfl _ (sOff_words h d r))) fun _ => k

/-- Wait until the summed rows sent to partner `r`, half `h`, have left, and until the partner's have come. -/
def wait2P (h : Fin 2) (d : Dev nD) (r : Fin 15) (k : Body F) : Body F :=
  .op (.waitDma2 (semAt cc0_scratch13 h r) (gatW h d) (redW h)
      ((Memref.isWhole_whole _).wordExact_slice rfl _ (gOff_words h d))
      ((Memref.isWhole_whole _).wordExact_slice rfl _ (red_words h))) fun _ =>
  .op (.waitDma2 (semAt cc0_scratch14 h r) (redW h) (gatW h d)
      ((Memref.isWhole_whole _).wordExact_slice rfl _ (red_words h))
      ((Memref.isWhole_whole _).wordExact_slice rfl _ (gOff_words h d))) fun _ => k

/-- Sum the rows of half `h` over the partners, round the sum and send it to each of them. -/
def halfP (h : Fin 2) (d : Dev nD) (k : Body F) : Body F :=
  .op (.load (Memref.whole cc0_scratch1) (Rect.unit (s := S256x1024) (aOff h d) S16x512.size (aOff_inb h d)).toLoadRect
      (View.loadsAt_vmem h_S16x512)) fun (a₀ : Vec F S16x512 .f32) =>
  accL (recv1P h d) parts a₀ fun (a : FVec F S16x512 .f32) =>
  .op (.load (Memref.whole cc0_scratch4) (Rect.unit (s := S16x1024) ![0, 512 * h.val] S16x512.size (red_inb h)).toLoadRect
      (View.loadsAt_vmem h_S16x512)) fun _ =>
  .op (.store (Memref.whole cc0_scratch4) (Rect.unit (s := S16x1024) ![0, 512 * h.val] S16x512.size (red_inb h))
      (shapeCast S16x512 (truncf .bf16 a bitsLt_bf16_f32 : FVec F S16x512 .bf16) shapeCasts_S16x512_S16x512) Finset.univ
      (View.stores_vmem h_S16x512 ((Memref.isWhole_whole _).storeExact_slice rfl _ (red_packed h)) (fun _ => rfl)) (.inl rfl)) fun _ =>
  seqL (send2P h d) parts k

/-- The payload of head `j`. -/
def headPay (xv : FVec F S256x1024 .bf16) (q : FVec F S256x1024 .f32) (wk wv : Vec F S1024x256 .f32) (j : Fin 8) :
    Vec F S256x128 .bf16 :=
  match j with
  | 0 => k0_pay7 xv q wk wv
  | 1 => k0_pay8 xv q wk wv
  | 2 => k0_pay9 xv q wk wv
  | 3 => k0_pay10 (k0_pay6 xv q wk wv)
  | 4 => k0_pay12 q (k0_pay4 xv wk) (k0_pay5 xv wv)
  | 5 => k0_pay13 q (k0_pay4 xv wk) (k0_pay5 xv wv)
  | 6 => k0_pay14 q (k0_pay4 xv wk) (k0_pay5 xv wv)
  | 7 => k0_pay15 q (k0_pay4 xv wk) (k0_pay5 xv wv)

/-- Store head `j`'s attention. -/
def headP (xv : FVec F S256x1024 .bf16) (q : FVec F S256x1024 .f32) (wk wv : Vec F S1024x256 .f32) (j : Fin 8) (k : Body F) :
    Body F :=
  .op (.load (Memref.whole cc0_scratch0) (Rect.unit (s := S256x1024) ![0, 128 * j.val] S256x128.size (head_inb j)).toLoadRect
      (View.loadsAt_vmem h_S256x128)) fun _ =>
  .op (.store (Memref.whole cc0_scratch0) (Rect.unit (s := S256x1024) ![0, 128 * j.val] S256x128.size (head_inb j))
      (headPay xv q wk wv j) Finset.univ
      (View.stores_vmem h_S256x128 ((Memref.isWhole_whole _).storeExact_slice rfl _ (head_packed j)) (fun _ => rfl)) (.inl rfl)) fun _ =>
  k

/-- The heads in the kernel's order. -/
def heads : List (Fin 8) := [0, 1, 2, 3, 4, 5, 6, 7]

/-- Start the four local copies. -/
def copiesP (d : Dev nD) (k : Body F) : Body F :=
  .op (.enqueueDma (Memref.whole main_arg1) (.here (Memref.whole cc0_scratch6)) (.dma (cpSem 0))
    (Memref.isWhole_whole _).wordExact (Memref.isWhole_whole _).wordExact ⟨Or.inl rfl, trivial⟩) fun _ =>
  .op (.enqueueDma (kvW (Memref.whole main_arg2) d) (.here (Memref.whole cc0_scratch8)) (.dma (cpSem 1))
    (View.wordExact_bits rfl) (Memref.isWhole_whole _).wordExact ⟨Or.inl rfl, trivial⟩) fun _ =>
  .op (.enqueueDma (kvW (Memref.whole main_arg3) d) (.here (Memref.whole cc0_scratch9)) (.dma (cpSem 2))
    (View.wordExact_bits rfl) (Memref.isWhole_whole _).wordExact ⟨Or.inl rfl, trivial⟩) fun _ =>
  .op (.enqueueDma (Memref.whole main_arg4) (.here (Memref.whole cc0_scratch7)) (.dma (cpSem 3))
    (Memref.isWhole_whole _).wordExact (Memref.isWhole_whole _).wordExact ⟨Or.inl rfl, trivial⟩) fun _ => k

/-- The attention of the device's own heads and its partial product. -/
def attnP (d : Dev nD) (k : Body F) : Body F :=
  .op (.load (Memref.whole cc0_stg0_0) (Rect.unit (s := S1x256x1024) ![0, 0, 0] S1x256x1024.size inb_S1x256x1024_S1x256x1024_0_0_0).toLoadRect
    (View.loadsAt_vmem h_S1x256x1024)) fun x =>
  .op (.waitDma2 (cpSem 0) (Memref.whole main_arg1) (Memref.whole cc0_scratch6)
    (Memref.isWhole_whole _).wordExact (Memref.isWhole_whole _).wordExact) fun _ =>
  .op (.load (Memref.whole cc0_scratch6) (Rect.unit (s := S1024x1024) ![0, 0] S1024x1024.size inb_S1024x1024_S1024x1024_0_0).toLoadRect
    (View.loadsAt_vmem h_S1024x1024)) fun wq =>
  .op (.waitDma2 (cpSem 1) (kvW (Memref.whole main_arg2) d) (Memref.whole cc0_scratch8)
    (View.wordExact_bits rfl) (Memref.isWhole_whole _).wordExact) fun _ =>
  .op (.waitDma2 (cpSem 2) (kvW (Memref.whole main_arg3) d) (Memref.whole cc0_scratch9)
    (View.wordExact_bits rfl) (Memref.isWhole_whole _).wordExact) fun _ =>
  .op (.load (Memref.whole cc0_scratch8) (Rect.unit (s := S1024x256) ![0, 0] S1024x256.size inb_S1024x256_S1024x256_0_0).toLoadRect
    (View.loadsAt_vmem h_S1024x256)) fun wk =>
  .op (.load (Memref.whole cc0_scratch9) (Rect.unit (s := S1024x256) ![0, 0] S1024x256.size inb_S1024x256_S1024x256_0_0).toLoadRect
    (View.loadsAt_vmem h_S1024x256)) fun wv =>
  seqL (headP (k0_pay2 x) (k0_pay3 x wq) wk wv) heads <|
  .op (.waitDma2 (cpSem 3) (Memref.whole main_arg4) (Memref.whole cc0_scratch7)
    (Memref.isWhole_whole _).wordExact (Memref.isWhole_whole _).wordExact) fun _ =>
  .op (.load (Memref.whole cc0_scratch0) (Rect.unit (s := S256x1024) ![0, 0] S256x1024.size inb_S256x1024_S256x1024_0_0).toLoadRect
    (View.loadsAt_vmem h_S256x1024)) fun at' =>
  .op (.load (Memref.whole cc0_scratch7) (Rect.unit (s := S1024x1024) ![0, 0] S1024x1024.size inb_S1024x1024_S1024x1024_0_0).toLoadRect
    (View.loadsAt_vmem h_S1024x1024)) fun wo =>
  .op (.load (Memref.whole cc0_scratch1) (Rect.unit (s := S256x1024) ![0, 0] S256x1024.size inb_S256x1024_S256x1024_0_0).toLoadRect
    (View.loadsAt_vmem h_S256x1024)) fun _ =>
  .op (.store (Memref.whole cc0_scratch1) (Rect.unit (s := S256x1024) ![0, 0] S256x1024.size inb_S256x1024_S256x1024_0_0)
    (k0_pay16 at' wo) Finset.univ (View.stores_vmem_bits_univ h_S256x1024 rfl) (.inl rfl)) fun _ =>
  .op (.load (Memref.whole cc0_scratch1) (Rect.unit (s := S256x1024) ![0, 0] S256x1024.size inb_S256x1024_S256x1024_0_0).toLoadRect
    (View.loadsAt_vmem h_S256x1024)) fun p =>
  .op (.load (Memref.whole cc0_scratch2) (Rect.unit (s := S256x1024) ![0, 0] S256x1024.size inb_S256x1024_S256x1024_0_0).toLoadRect
    (View.loadsAt_vmem h_S256x1024)) fun _ =>
  .op (.store (Memref.whole cc0_scratch2) (Rect.unit (s := S256x1024) ![0, 0] S256x1024.size inb_S256x1024_S256x1024_0_0)
    (k0_pay17 p) Finset.univ (View.stores_vmem h_S256x1024 ((Memref.isWhole_whole _).storeExact_slice rfl _ packedbf16_S256x1024_S256x1024_0_0) (fun _ => rfl)) (.inl rfl)) fun _ =>
  k

/-- Put the device's own summed rows in the gathered result. -/
def ownP (d : Dev nD) (k : Body F) : Body F :=
  .op (.load (Memref.whole cc0_scratch4) (Rect.unit (s := S16x1024) ![0, 0] S16x1024.size inb_S16x1024_S16x1024_0_0).toLoadRect
    (View.loadsAt_vmem h_S16x1024)) fun v =>
  .op (.load (Memref.whole cc0_scratch5) (Rect.unit (s := S256x1024) (k0_off8 d) S16x1024.size (k0_off8_inb d)).toLoadRect
    (View.loadsAt_vmem h_S16x1024)) fun _ =>
  .op (.store (Memref.whole cc0_scratch5) (Rect.unit (s := S256x1024) (k0_off8 d) S16x1024.size (k0_off8_inb d))
    (k0_pay33 v) Finset.univ (View.stores_vmem h_S16x1024 ((Memref.isWhole_whole _).storeExact_slice rfl _ (k0_off8_packedbf16 d)) (fun _ => rfl)) (.inl rfl)) fun _ =>
  k

/-- Widen the gathered rows into the result. -/
def outP : Body F :=
  .op (.load (Memref.whole cc0_scratch5) (Rect.unit (s := S256x1024) ![0, 0] S256x1024.size inb_S256x1024_S256x1024_0_0).toLoadRect
    (View.loadsAt_vmem h_S256x1024)) fun v =>
  .op (.load (Memref.whole cc0_stg1_0) (Rect.unit (s := S1x256x1024) ![0, 0, 0] S1x256x1024.size inb_S1x256x1024_S1x256x1024_0_0_0).toLoadRect
    (View.loadsAt_vmem h_S1x256x1024)) fun _ =>
  .op (.store (Memref.whole cc0_stg1_0) (Rect.unit (s := S1x256x1024) ![0, 0, 0] S1x256x1024.size inb_S1x256x1024_S1x256x1024_0_0_0)
    (k0_pay1 v) Finset.univ (View.stores_vmem_bits_univ h_S1x256x1024 rfl) (.inl rfl)) fun _ =>
  .ret ⟨⟩

/-- Everything after the device has learned its number. -/
def mainP (d : Dev nD) : Body F :=
  copiesP d <|
  seqL (sigP d) parts <|
  (semWaitWord barSem 15#32 >>= fun _ =>
  attnP d <|
  seqL (send1P 0 d) parts <|
  seqL (send1P 1 d) parts <|
  halfP 0 d <|
  halfP 1 d <|
  ownP d <|
  seqL (wsend1P 0 d) parts <|
  seqL (wsend1P 1 d) parts <|
  seqL (wait2P 0 d) parts <|
  seqL (wait2P 1 d) parts <|
  outP)

/-- The body as loops. -/
def loopBody : Body F := .op .deviceId fun d => mainP d

set_option maxRecDepth 1000000 in
set_option maxHeartbeats 0 in
theorem body_eq_loops (t : Fin cfg0.N) : bodyAt0 (F := F) t = loopBody := rfl

end Cert.KernelIdeal.Pf

end
-- ==== Proof.Common.lean ====
/- The protocol between the sixteen devices: the semaphores it runs on, what each completed signal, copy and transfer
   hands over, and what each device's memory holds at each step, as functions of the memory at launch. -/
module

public import proofs.«01_k».proof.Proof.Prog
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## Partners -/

theorem devOf_devOf : ∀ (c : Dev nD) (r : Fin 15), devOf (devOf c r) r = c := by decide +kernel
theorem devOf_inj : ∀ (c : Dev nD) (r r' : Fin 15), devOf c r = devOf c r' → r = r' := by decide +kernel
theorem devOf_ne : ∀ (c : Dev nD) (r : Fin 15), devOf c r ≠ c := by decide +kernel
theorem devOf_surj : ∀ (c d : Dev nD), d ≠ c → ∃ r, devOf c r = d := by decide +kernel

/-- Exchanging with partner `r` is a permutation of the devices. -/
def swap (r : Fin 15) : Dev nD ≃ Dev nD := ⟨fun c => devOf c r, fun c => devOf c r, fun c => devOf_devOf c r, fun c => devOf_devOf c r⟩

theorem mem_parts : ∀ r : Fin 15, r ∈ parts := by decide
theorem parts_nodup : parts.Nodup := by decide
theorem parts_toFinset : parts.toFinset = Finset.univ := by decide

theorem sOff_eq : ∀ (h : Fin 2) (d : Dev nD) (r : Fin 15), sOff h d r = ![16 * (devOf d r).val, 512 * h.val] := by decide +kernel
theorem aOff_eq : ∀ (h : Fin 2) (d : Dev nD), aOff h d = ![16 * d.val, 512 * h.val] := by decide +kernel
theorem gOff_eq : ∀ (h : Fin 2) (d : Dev nD), gOff h d = ![16 * d.val, 512 * h.val] := by decide +kernel

/-! ## The resource algebra: the pipeline's copy and the protocol's (duties numbered by partner) -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## The semaphores -/

/-- The kernel's own semaphores in use: the four local copies; for each half and partner the four of the exchange —
    `0` the first send, `1` the first landing, `2` the second send, `3` the second landing. -/
abbrev OK : Type := Fin 4 ⊕ (Fin 4 × (Fin 2 × Fin 15))
/-- With the barrier's. -/
abbrev CK : Type := Unit ⊕ OK

def semTabs (a : Fin 4) : DmaSems sig S2x16 :=
  match a with
  | 0 => cc0_scratch11 | 1 => cc0_scratch12 | 2 => cc0_scratch13 | 3 => cc0_scratch14

def osem : OK → SemLoc sig
  | .inl j => .dma (cpSem j)
  | .inr x => .dma (semAt (semTabs x.1) x.2.1 x.2.2)
def csem : CK → SemLoc sig
  | .inl _ => .reg barSem
  | .inr o => osem o
def kcell (ck : Dev nD × CK) : GSem nD τ sig := ((ck.1 : Thread nD τ), csem ck.2)

abbrev bar : CK := .inl ()
abbrev cp (j : Fin 4) : CK := .inr (.inl j)
abbrev xk (a : Fin 4) (h : Fin 2) (r : Fin 15) : CK := .inr (.inr (a, h, r))

/-- Which of them a semaphore is. -/
def kindOf : SemLoc sig → Option CK
  | .reg s => if s = barSem then some bar else none
  | .dma q =>
    if q.val < 2 then none
    else if h : q.val < 6 then some (cp ⟨q.val - 2, by omega⟩)
    else if h : q.val < 134 then
      if h0 : (q.val - 6) % 16 = 0 then none
      else some (xk ⟨(q.val - 6) / 32, by omega⟩ ⟨(q.val - 6) / 16 % 2, Nat.mod_lt _ (by decide)⟩
        ⟨(q.val - 6) % 16 - 1, by have := Nat.mod_lt (q.val - 6) (show 16 > 0 by decide); omega⟩)
    else none

set_option maxRecDepth 100000 in
theorem kindOf_csem : ∀ k : CK, kindOf (csem k) = some k := by decide +kernel

theorem csem_inj : Function.Injective csem := fun a b h => Option.some.inj (by rw [← kindOf_csem a, ← kindOf_csem b, h])
theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]
theorem kindOf_kcell (ck : Dev nD × CK) : kindOf (kcell ck).2 = some ck.2 := kindOf_csem ck.2

/-- The credit of a transferred piece, and of each local copy. -/
abbrev N : ℕ := (redW 0).view.dmaCredit
theorem N_pos : 0 < N := View.dmaCredit_pos _ (by decide)
def cpN (j : Fin 4) : ℕ :=
  match j with
  | 0 => (Memref.whole cc0_scratch6 : Memref sig .tc _ _ _).view.dmaCredit
  | 1 => (Memref.whole cc0_scratch8 : Memref sig .tc _ _ _).view.dmaCredit
  | 2 => (Memref.whole cc0_scratch9 : Memref sig .tc _ _ _).view.dmaCredit
  | 3 => (Memref.whole cc0_scratch7 : Memref sig .tc _ _ _).view.dmaCredit
theorem cpN_pos (j : Fin 4) : 0 < cpN j := by
  unfold cpN; split <;> exact View.dmaCredit_pos _ (by decide)

theorem slotN (h : Fin 2) (r : Fin 15) : (slotW h r).view.dmaCredit = N := rfl
theorem sendN (h : Fin 2) (d : Dev nD) (r : Fin 15) : (sendW h d r).view.dmaCredit = N := rfl
theorem gatN (h : Fin 2) (d : Dev nD) : (gatW h d).view.dmaCredit = N := rfl
theorem redN (h : Fin 2) : (redW h).view.dmaCredit = N := rfl

/-! ## Contents -/

variable (m : (ℓ : Loc nD τ sig) → Buf (Elt F) ℓ)

/-- Index `(a, b)` of a matrix. -/
def ix2 {n₀ n₁ : Nat} (a b : Nat) (ha : a < n₀) (hb : b < n₁) : (⟨2, ![n₀, n₁]⟩ : Shape).Idx :=
  fun k => match k with
    | ⟨0, _⟩ => ⟨a, ha⟩
    | ⟨1, _⟩ => ⟨b, hb⟩

def xAt (c : Dev nD) : Vec F S1x256x1024 .f32 :=
  (win0_0.blk (0 : Fin 1)).view.read (Elt F) (m ((c : Thread nD τ).loc main_arg0))
def wqAt (c : Dev nD) : Vec F S1024x1024 .f32 := m ((c : Thread nD τ).loc main_arg1)
def wkAt (c : Dev nD) : Vec F S1024x256 .f32 :=
  (kvW (Memref.whole main_arg2) c).view.read (Elt F) (m ((c : Thread nD τ).loc main_arg2))
def wvAt (c : Dev nD) : Vec F S1024x256 .f32 :=
  (kvW (Memref.whole main_arg3) c).view.read (Elt F) (m ((c : Thread nD τ).loc main_arg3))
def woAt (c : Dev nD) : Vec F S1024x1024 .f32 := m ((c : Thread nD τ).loc main_arg4)

/-- Head `j`'s attention on device `c`. -/
def headAt (c : Dev nD) (j : Fin 8) : Vec F S256x128 .bf16 :=
  headPay (k0_pay2 (xAt m c)) (k0_pay3 (xAt m c) (wqAt m c)) (wkAt m c) (wvAt m c) j
/-- The eight heads side by side. -/
def attnAt (c : Dev nD) : Vec F S256x1024 .bf16 := fun i =>
  headAt m c ⟨(i 1).val / 128, by have := (i 1).isLt; have h : S256x1024.size 1 = 1024 := rfl; omega⟩
    (ix2 (i 0).val ((i 1).val % 128) (i 0).isLt (Nat.mod_lt _ (by decide)))
/-- The device's partial product, and the same rounded. -/
def partAt (c : Dev nD) : Vec F S256x1024 .f32 := k0_pay16 (attnAt m c) (woAt m c)
def sentAt (c : Dev nD) : Vec F S256x1024 .bf16 := k0_pay17 (partAt m c)

/-- What device `c` sends partner `r`, half `h`. -/
def sendVal (h : Fin 2) (c : Dev nD) (r : Fin 15) : Vec F S16x512 .bf16 :=
  (sendW h c r).view.read (Elt F) (sentAt m c)
/-- What lands on device `c` from partner `r`. -/
def landVal (h : Fin 2) (c : Dev nD) (r : Fin 15) : Vec F S16x512 .bf16 := sendVal m h (devOf c r) r
/-- The device's own rows of its own partial product. -/
def ownVal (h : Fin 2) (c : Dev nD) : Vec F S16x512 .f32 :=
  (Memref.whole cc0_scratch1).view.readAt (Elt F)
    (Rect.unit (s := S256x1024) (aOff h c) S16x512.size (aOff_inb h c)).toLoadRect (partAt m c)
/-- One step of the sum. -/
def addStep (h : Fin 2) (c : Dev nD) (a : FVec F S16x512 .f32) (r : Fin 15) : FVec F S16x512 .f32 :=
  addf a (extf .f32 (landVal m h c r : FVec F S16x512 .bf16) bitsLt_bf16_f32)
def sumVal (h : Fin 2) (c : Dev nD) : FVec F S16x512 .f32 := parts.foldl (addStep m h c) (ownVal m h c)
def redVal (h : Fin 2) (c : Dev nD) : Vec F S16x512 .bf16 :=
  shapeCast S16x512 (truncf .bf16 (sumVal m h c) bitsLt_bf16_f32 : FVec F S16x512 .bf16) shapeCasts_S16x512_S16x512
/-- The summed rows of device `c`, both halves. -/
def redAt (c : Dev nD) : Vec F S16x1024 .bf16 := fun i =>
  redVal m ⟨(i 1).val / 512, by have := (i 1).isLt; have h : S16x1024.size 1 = 1024 := rfl; omega⟩ c
    (ix2 (i 0).val ((i 1).val % 512) (i 0).isLt (Nat.mod_lt _ (by decide)))
/-- The gathered rows of all devices. -/
def gatAt : Vec F S256x1024 .bf16 := fun i =>
  redVal m ⟨(i 1).val / 512, by have := (i 1).isLt; have h : S256x1024.size 1 = 1024 := rfl; omega⟩
    ⟨(i 0).val / 16, by have := (i 0).isLt; have h : S256x1024.size 0 = 256 := rfl; have h' : nD = 16 := rfl; omega⟩
    (ix2 ((i 0).val % 16) ((i 1).val % 512) (Nat.mod_lt _ (by decide)) (Nat.mod_lt _ (by decide)))
def outAt : Vec F S1x256x1024 .f32 := k0_pay1 (gatAt m)

/-! ## The schedule -/

/-- Ownership at the full share, of given and of unknown contents. -/
abbrev own {sp : Space} {s : Shape} {e : EltTy} (c : Dev nD) (M : Memref sig .tc sp s e) (X : s.Idx → Elt F e) : sProp 𝕄 :=
  owns (c : Thread nD τ) M fullShare X
abbrev ownAny {sp : Space} {s : Shape} {e : EltTy} (c : Dev nD) (M : Memref sig .tc sp s e) : sProp 𝕄 :=
  iprop(∃ X, own (F := F) c M X)

/-- The share of the summed rows lent to the second send to partner `r`. -/
abbrev lent (r : Fin 15) : PosShare TreeShare := Transfers.shareTok fullShare 15 r
abbrev kept : PosShare TreeShare := Transfers.shareDrop fullShare 15

/-- Partner `r`'s signal: its landing slots for this device's rows, and this device's rows of its gathered result. -/
def barPay (c : Dev nD) (r : Fin 15) : sProp 𝕄 :=
  iprop((ownAny (F := F) (devOf c r) (slotW 0 r) ∗ ownAny (F := F) (devOf c r) (slotW 1 r))
    ∗ (ownAny (F := F) (devOf c r) (gatW 0 c) ∗ ownAny (F := F) (devOf c r) (gatW 1 c)))

def cpPay (c : Dev nD) (j : Fin 4) : sProp 𝕄 :=
  match j with
  | 0 => iprop(own c (Memref.whole cc0_scratch6) (wqAt m c) ∗ own c (Memref.whole main_arg1) (m ((c : Thread nD τ).loc main_arg1)))
  | 1 => iprop(own c (Memref.whole cc0_scratch8) (wkAt m c)
      ∗ own c (kvW (Memref.whole main_arg2) c) (wkAt m c))
  | 2 => iprop(own c (Memref.whole cc0_scratch9) (wvAt m c)
      ∗ own c (kvW (Memref.whole main_arg3) c) (wvAt m c))
  | 3 => iprop(own c (Memref.whole cc0_scratch7) (woAt m c) ∗ own c (Memref.whole main_arg4) (m ((c : Thread nD τ).loc main_arg4)))

def xkPay (c : Dev nD) (a : Fin 4) (h : Fin 2) (r : Fin 15) : sProp 𝕄 :=
  match a with
  | 0 => own c (sendW h c r) (sendVal m h c r)
  | 1 => own c (slotW h r) (landVal m h c r)
  | 2 => owns (c : Thread nD τ) (redW h) (lent r) (redVal m h c)
  | 3 => own c (gatW h (devOf c r)) (redVal m h (devOf c r))

def kPay (c : Dev nD) (k : CK) (d : Fin 15) : sProp 𝕄 :=
  match k with
  | .inl _ => barPay (F := F) c d
  | .inr (.inl j) => cpPay m c j
  | .inr (.inr x) => xkPay m c x.1 x.2.1 x.2.2

instance cpPay_storable (c : Dev nD) (j : Fin 4) : BI.Storable (upEmb : UEmb _ 𝕄) (cpPay m c j) := by
  unfold cpPay; split <;> infer_instance
instance xkPay_storable (c : Dev nD) (a : Fin 4) (h : Fin 2) (r : Fin 15) : BI.Storable (upEmb : UEmb _ 𝕄) (xkPay m c a h r) := by
  unfold xkPay; split <;> infer_instance
instance kPay_storable (c : Dev nD) (k : CK) (d : Fin 15) : BI.Storable (upEmb : UEmb _ 𝕄) (kPay m c k d) := by
  unfold kPay barPay; split <;> infer_instance

def kDuties : CK → Finset (Fin 15)
  | .inl _ => Finset.univ
  | .inr _ => {0}
def kAmount : CK → ℕ
  | .inl _ => 1
  | .inr (.inl j) => cpN j
  | .inr (.inr _) => N
theorem kAmount_pos (k : CK) : 0 < kAmount k := by
  rcases k with _ | j | x
  · exact Nat.one_pos
  · exact cpN_pos j
  · exact N_pos

/-- One round: a barrier cell has a duty from each partner, every other cell one. -/
def Rd : Rounds.Schedule (GSem nD τ sig) (Fin 15) 𝕄 where
  duties g r := if r = 0 ∧ g.1.2 = .tc then (kindOf g.2).elim ∅ kDuties else ∅
  unitless _ := False
  amount g _ _ := (kindOf g.2).elim 1 kAmount
  payload g _ d := (kindOf g.2).elim iprop(emp) fun k => kPay m g.1.1 k d
  amount_pos g _ _ _ := by
    cases kindOf g.2 with
    | none => exact Nat.one_pos
    | some k => exact kAmount_pos k

instance Rd_payload_storable (g : GSem nD τ sig) (r : ℕ) (d : Fin 15) :
    BI.Storable (upEmb : UEmb _ 𝕄) ((Rd m).payload g r d) := by
  show BI.Storable upEmb ((kindOf g.2).elim iprop(emp) fun k => kPay m g.1.1 k d)
  cases kindOf g.2 with
  | none => exact inferInstanceAs (BI.Storable upEmb iprop(emp))
  | some k => exact inferInstanceAs (BI.Storable upEmb (kPay m g.1.1 k d))

theorem Rd_duties (ck : Dev nD × CK) : (Rd m).duties (kcell ck) 0 = kDuties ck.2 := by
  show (if 0 = 0 ∧ (kcell ck).1.2 = .tc then (kindOf (kcell ck).2).elim ∅ kDuties else ∅) = _
  rw [if_pos ⟨rfl, rfl⟩, kindOf_kcell]; rfl
theorem Rd_later (g : GSem nD τ sig) : ∀ r, 1 ≤ r → (Rd m).duties g r = ∅ :=
  fun r hr => if_neg fun h => by omega
theorem Rd_amount (ck : Dev nD × CK) (d : Fin 15) : (Rd m).amount (kcell ck) 0 d = kAmount ck.2 := by
  show (kindOf (kcell ck).2).elim 1 kAmount = _
  rw [kindOf_kcell]; rfl
theorem Rd_payload (ck : Dev nD × CK) (d : Fin 15) : (Rd m).payload (kcell ck) 0 d = kPay m ck.1 ck.2 d := by
  show (kindOf (kcell ck).2).elim iprop(emp) (fun k => kPay m (kcell ck).1.1 k d) = _
  rw [kindOf_kcell]; rfl

def kExpect : CK → ℕ
  | .inl _ => 15
  | .inr o => kAmount (.inr o)
theorem Rd_expect (ck : Dev nD × CK) : (Rd m).expect (kcell ck) 0 = kExpect ck.2 := by
  unfold Schedule.expect Schedule.amountOf
  rw [Rd_duties, Finset.sum_congr rfl fun d _ => Rd_amount m ck d]
  obtain ⟨c, k | o⟩ := ck
  · show ∑ _d : Fin 15, kAmount (.inl k) = 15
    rw [Finset.sum_const, Finset.card_univ, Fintype.card_fin]; rfl
  · show ∑ _d ∈ {(0 : Fin 15)}, kAmount (.inr o) = kAmount (.inr o)
    rw [Finset.sum_singleton]

theorem rest_bar (c : Dev nD) :
    bigSep ((Rd m).duties (kcell (c, bar)) 0 \ ∅) (fun d => (Rd m).payload (kcell (c, bar)) 0 d)
      = bigSep Finset.univ (fun r : Fin 15 => barPay (F := F) c r) := by
  rw [Finset.sdiff_empty, Rd_duties]
  exact bigSep_congr fun d _ => Rd_payload m (c, bar) d
theorem rest_own (c : Dev nD) (o : OK) :
    bigSep ((Rd m).duties (kcell (c, .inr o)) 0 \ ∅) (fun d => (Rd m).payload (kcell (c, .inr o)) 0 d)
      = kPay m c (.inr o) 0 := by
  rw [Finset.sdiff_empty, Rd_duties]
  show bigSep {(0 : Fin 15)} _ = _
  rw [bigSep_singleton, Rd_payload]

/-! ## Debts and levels -/

/-- The barrier units, and the credits of the first and second exchange, that device `c` owes the partners in a set. -/
def owB (c : Dev nD) (S : Finset (Fin 15)) : CellTallies nD τ sig Unit := ∑ r ∈ S, tallyAt (kcell (devOf c r, bar)) () 1
def owX (a : Fin 4) (c : Dev nD) (h : Fin 2) (S : Finset (Fin 15)) : CellTallies nD τ sig Unit :=
  ∑ r ∈ S, tallyAt (kcell (devOf c r, xk a h r)) () N

/-- What is owed after the barrier, with the first exchange's debts to `S₀` and `S₁` left and the second's to `T₀`, `T₁`. -/
def owR (c : Dev nD) (S₀ S₁ T₀ T₁ : Finset (Fin 15)) : CellTallies nD τ sig Unit :=
  owX 1 c 0 S₀ + owX 1 c 1 S₁ + owX 3 c 0 T₀ + owX 3 c 1 T₁
def O₀ (c : Dev nD) : CellTallies nD τ sig Unit :=
  owR c Finset.univ Finset.univ Finset.univ Finset.univ + owB c Finset.univ

theorem owB_empty (c : Dev nD) : owB c ∅ = 0 := Finset.sum_empty
theorem owX_empty (a : Fin 4) (c : Dev nD) (h : Fin 2) : owX a c h ∅ = 0 := Finset.sum_empty
theorem owR_empty (c : Dev nD) : owR c ∅ ∅ ∅ ∅ = 0 := by
  unfold owR; simp only [owX_empty, add_zero]
theorem owB_insert (c : Dev nD) {r : Fin 15} {S : Finset (Fin 15)} (h : r ∉ S) :
    owB c (insert r S) = owB c S + tallyAt (kcell (devOf c r, bar)) () 1 := by
  unfold owB; rw [Finset.sum_insert h, add_comm]
theorem owX_insert (a : Fin 4) (c : Dev nD) (h' : Fin 2) {r : Fin 15} {S : Finset (Fin 15)} (h : r ∉ S) :
    owX a c h' (insert r S) = owX a c h' S + tallyAt (kcell (devOf c r, xk a h' r)) () N := by
  unfold owX; rw [Finset.sum_insert h, add_comm]

def L (g : GSem nD τ sig) : Finset Unit := if g.1.2 = .tc then {()} else ∅
def kLv : CK → ℕ
  | .inl _ => 1
  | .inr (.inl _) => 0
  | .inr (.inr x) => match x.1 with
    | 0 => 0
    | 1 => 2
    | 2 => 0
    | 3 => 3
def lv (g : GSem nD τ sig) (_ : Unit) : ℕ := (kindOf g.2).elim 0 kLv

theorem L_of_ne (g : GSem nD τ sig) (h : g.1.2 ≠ .tc) : L g = ∅ := if_neg h
theorem L_tc (c : Dev nD) (sm : SemLoc sig) : L ((c : Thread nD τ), sm) = {()} := if_pos rfl
theorem lv_kcell (ck : Dev nD × CK) (u : Unit) : lv (kcell ck) u = kLv ck.2 := by
  unfold lv; rw [kindOf_kcell]; rfl

/-- Every debt is to a device's cell of a level above `n`. -/
def Above (n : ℕ) (O : CellTallies nD τ sig Unit) : Prop := ∀ g u, 0 < O g u → g.1.2 = .tc ∧ n < lv g u

theorem above_zero (n : ℕ) : Above n 0 := fun g u h => absurd h (Nat.lt_irrefl 0)
theorem above_add {n : ℕ} {O O' : CellTallies nD τ sig Unit} (h : Above n O) (h' : Above n O') : Above n (O + O') := fun g u hp => by
  rw [Pi.add_apply, Finsupp.add_apply] at hp
  rcases Nat.eq_zero_or_pos (O g u) with h0 | h0
  · exact h' g u (by omega)
  · exact h g u h0
theorem above_sum {n : ℕ} {I : Type} [DecidableEq I] (S : Finset I) (f : I → CellTallies nD τ sig Unit) (h : ∀ i, Above n (f i)) : Above n (∑ i ∈ S, f i) := by
  induction S using Finset.induction_on with
  | empty => rw [Finset.sum_empty]; exact above_zero n
  | insert i S hi ih => rw [Finset.sum_insert hi]; exact above_add (h i) ih
theorem above_tally {n : ℕ} (ck : Dev nD × CK) (k : ℕ) (h : n < kLv ck.2) : Above n (tallyAt (kcell ck) () k) := fun g u hp => by
  rw [tallyAt_apply] at hp
  by_cases hg : g = kcell ck ∧ u = ()
  · rw [hg.1, lv_kcell]; exact ⟨rfl, h⟩
  · rw [if_neg hg] at hp; exact absurd hp (Nat.lt_irrefl 0)
theorem above_owB (c : Dev nD) (S : Finset (Fin 15)) : Above 0 (owB c S) :=
  above_sum S _ fun r => above_tally _ _ Nat.zero_lt_one
theorem above_owX1 {n : ℕ} (hn : n < 2) (c : Dev nD) (h : Fin 2) (S : Finset (Fin 15)) : Above n (owX 1 c h S) :=
  above_sum S _ fun r => above_tally _ _ hn
theorem above_owX3 {n : ℕ} (hn : n < 3) (c : Dev nD) (h : Fin 2) (S : Finset (Fin 15)) : Above n (owX 3 c h S) :=
  above_sum S _ fun r => above_tally _ _ hn
theorem above_owR {n : ℕ} (hn : n < 2) (c : Dev nD) (S₀ S₁ T₀ T₁ : Finset (Fin 15)) : Above n (owR c S₀ S₁ T₀ T₁) :=
  above_add (above_add (above_add (above_owX1 hn c 0 S₀) (above_owX1 hn c 1 S₁)) (above_owX3 (by omega) c 0 T₀)) (above_owX3 (by omega) c 1 T₁)
theorem above_owR' (c : Dev nD) (T₀ T₁ : Finset (Fin 15)) : Above 2 (owR c ∅ ∅ T₀ T₁) := by
  unfold owR; rw [owX_empty, owX_empty, zero_add, zero_add]
  exact above_add (above_owX3 (by omega) c 0 T₀) (above_owX3 (by omega) c 1 T₁)

/-- A device may wait on a cell of level at most `n` while it owes only above `n`. -/
theorem mayWait_above (c : Dev nD) (sm : SemLoc sig) (n : ℕ) (O : CellTallies nD τ sig Unit) (hn : lv ((c : Thread nD τ), sm) () ≤ n)
    (hO : Above n O) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

/-! ## The launch's records -/

/-- Every cell's invariant and that every cell has reached its round. -/
def records (K : Dev nD × CK → ℕ) : sProp 𝕄 :=
  iprop((bigSep Finset.univ fun ck : Dev nD × CK => cellInv ER (Rd m) (K ck) (kcell ck))
    ∗ bigSep Finset.univ fun ck : Dev nD × CK => reached ER (kcell ck) 0)

instance records_persistent (K : Dev nD × CK → ℕ) : BI.Persistent (records m K) := by unfold records; infer_instance

theorem inv_at (K : Dev nD × CK → ℕ) (ck : Dev nD × CK) : records m K ⊢ cellInv ER (Rd m) (K ck) (kcell ck) :=
  sep_elim_left.trans (bigSep_elim (Finset.mem_univ ck))
theorem reached_at (K : Dev nD × CK → ℕ) (ck : Dev nD × CK) : records m K ⊢ reached ER (kcell ck) 0 :=
  sep_elim_right.trans (bigSep_elim (Finset.mem_univ ck))

end Cert.KernelIdeal.Pf

end
-- ==== Proof.Steps.lean ====
/- One lemma for each kind of step of the kernel's body, and the two lemmas that run a step over a list. -/
module

public import proofs.«01_k».proof.Proof.Common

@[expose] public section

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- The weakest precondition of a piece of the body on device `c`. -/
abbrev WP (c : Dev nD) (p : Body F) (Kt : PUnit → sProp 𝕄) : sProp 𝕄 :=
  wp frame (wpE (defs₀ (F := F)) 𝒱₀ (c : Thread nD τ) none) Set.univ p Kt

/-- What device `c` owes, whatever it has waited on. -/
def owing (c : Dev nD) (O : CellTallies nD τ sig Unit) : sProp 𝕄 := iprop(∃ W, owes (c : Thread nD τ) O W)

section Loops

variable (c : Dev nD) {α : Type} [DecidableEq α]

/-- A loop that takes `A a` to `B a` at each element and leaves `I` of the elements still to come. -/
theorem wp_seqL (Kt : PUnit → sProp 𝕄) (b : α → Body F → Body F) (P : sProp 𝕄) [BI.Persistent P] (A B : α → sProp 𝕄) (I : Finset α → sProp 𝕄)
    (step : ∀ a S k, a ∉ S → iprop(P ∗ A a ∗ I (insert a S)) ⊢ iprop(((B a ∗ I S) -∗ WP c k Kt) -∗ WP c (b a k) Kt)) :
    ∀ (l : List α), l.Nodup → ∀ k,
      iprop(P ∗ bigSep l.toFinset A ∗ I l.toFinset) ⊢ iprop(((bigSep l.toFinset B ∗ I ∅) -∗ WP c k Kt) -∗ WP c (seqL b l k) Kt)
  | [], _, k => by
    rw [List.toFinset_nil, bigSep_empty, bigSep_empty]
    show _ ⊢ iprop(_ -∗ WP c k Kt)
    iintro ⟨-, -, HI⟩ Hk
    iapply Hk
    isplitr; · iempintro
    iexact HI
  | a :: l, hl, k => by
    have ha : a ∉ l.toFinset := fun h => (List.nodup_cons.mp hl).1 (List.mem_toFinset.mp h)
    rw [List.toFinset_cons, bigSep_insert ha, bigSep_insert ha]
    show iprop(P ∗ (A a ∗ bigSep l.toFinset A) ∗ I (insert a l.toFinset))
      ⊢ iprop((((B a ∗ bigSep l.toFinset B) ∗ I ∅) -∗ WP c k Kt) -∗ WP c (b a (seqL b l k)) Kt)
    iintro ⟨#HP, ⟨Ha, Hl⟩, HI⟩ Hk
    iapply (step a l.toFinset (seqL b l k) ha) $$ [Ha HI]
    · isplitr; · iexact HP
      isplitl [Ha] <;> iassumption
    iintro ⟨HB, HI⟩
    iapply (wp_seqL Kt b P A B I step l (List.nodup_cons.mp hl).2 k) $$ [Hl HI]
    · isplitr; · iexact HP
      isplitl [Hl] <;> iassumption
    iintro ⟨HBl, HI⟩
    iapply Hk
    isplitl [HB HBl]
    · isplitl [HB] <;> iassumption
    iexact HI

/-- The same with a value carried along. -/
theorem wp_accL (Kt : PUnit → sProp 𝕄) {β : Type} (b : α → β → (β → Body F) → Body F) (g : β → α → β) (P : sProp 𝕄) [BI.Persistent P]
    (A B : α → sProp 𝕄) (I : Finset α → sProp 𝕄)
    (step : ∀ a S x k, a ∉ S → iprop(P ∗ A a ∗ I (insert a S)) ⊢ iprop(((B a ∗ I S) -∗ WP c (k (g x a)) Kt) -∗ WP c (b a x k) Kt)) :
    ∀ (l : List α), l.Nodup → ∀ x k,
      iprop(P ∗ bigSep l.toFinset A ∗ I l.toFinset)
        ⊢ iprop(((bigSep l.toFinset B ∗ I ∅) -∗ WP c (k (l.foldl g x)) Kt) -∗ WP c (accL b l x k) Kt)
  | [], _, x, k => by
    rw [List.toFinset_nil, bigSep_empty, bigSep_empty]
    show _ ⊢ iprop((_ -∗ WP c (k x) Kt) -∗ WP c (k x) Kt)
    iintro ⟨-, -, HI⟩ Hk
    iapply Hk
    isplitr; · iempintro
    iexact HI
  | a :: l, hl, x, k => by
    have ha : a ∉ l.toFinset := fun h => (List.nodup_cons.mp hl).1 (List.mem_toFinset.mp h)
    rw [List.toFinset_cons, bigSep_insert ha, bigSep_insert ha]
    show iprop(P ∗ (A a ∗ bigSep l.toFinset A) ∗ I (insert a l.toFinset))
      ⊢ iprop((((B a ∗ bigSep l.toFinset B) ∗ I ∅) -∗ WP c (k (l.foldl g (g x a))) Kt) -∗ WP c (b a x (fun y => accL b l y k)) Kt)
    iintro ⟨#HP, ⟨Ha, Hl⟩, HI⟩ Hk
    iapply (step a l.toFinset x (fun y => accL b l y k) ha) $$ [Ha HI]
    · isplitr; · iexact HP
      isplitl [Ha] <;> iassumption
    iintro ⟨HB, HI⟩
    iapply (wp_accL Kt b g P A B I step l (List.nodup_cons.mp hl).2 (g x a) k) $$ [Hl HI]
    · isplitr; · iexact HP
      isplitl [Hl] <;> iassumption
    iintro ⟨HBl, HI⟩
    iapply Hk
    isplitl [HB HBl]
    · isplitl [HB] <;> iassumption
    iexact HI

end Loops

/-! ## Loads and stores through a window -/

section Mem

variable (c : Dev nD)

/-- Loading a window gives what it holds, -/
theorem wp_load_win (Kt : PUnit → sProp 𝕄) {cs : CoreSpace} {s : Shape} {e : EltTy} {M : Memref sig .tc cs s e} {r : Rect s} (hr : ∀ a, r.stride a = 1)
    {hl : M.view.LoadsAt r.toLoadRect} {k : (r.shape.Idx → Elt F e) → Body F} {q : PosShare TreeShare} (X : r.shape.Idx → Elt F e) :
    owns (c : Thread nD τ) (M.slice r hr) q X
      ⊢ iprop((owns (c : Thread nD τ) (M.slice r hr) q X -∗ WP c (k X) Kt) -∗ WP c (.op (.load M r.toLoadRect hl) k) Kt) := by
  unfold owns
  iintro ⟨%f, %hf, H⟩ Hk
  iapply (wp_load_rect 𝒱₀ (c : Thread nD τ) none Set.univ (m := M) (r := r) (hl := hl) (Finset.Subset.refl _)) $$ H
  iintro H
  rw [show (M.access r).read (Elt F) f = X from hf]
  iapply Hk
  iexists f
  isplitr; · ipureintro; exact hf
  iexact H

/-- and storing to it leaves what was stored. -/
theorem wp_store_win (Kt : PUnit → sProp 𝕄) {cs : CoreSpace} {s : Shape} {e : EltTy} {M : Memref sig .tc cs s e} {r : Rect s} (hr : ∀ a, r.stride a = 1)
    {w : r.shape.Idx → Elt F e} {hx : (M.access r).Stores Finset.univ} {hm : Finset.univ = Finset.univ ∨ ∀ a, r.stride a = 1}
    {k : PUnit → Body F} (X : r.shape.Idx → Elt F e) :
    own (F := F) c (M.slice r hr) X
      ⊢ iprop((own c (M.slice r hr) w -∗ WP c (k ⟨⟩) Kt) -∗ WP c (.op (.store M r w Finset.univ hx hm) k) Kt) := by
  unfold own owns
  iintro ⟨%f, %hf, H⟩ Hk
  iapply (wp_store 𝒱₀ (c : Thread nD τ) none Set.univ (m := M) (r := r) (w := w) (Mk := Finset.univ) (hx := hx) (hm := hm)
    (S := (M.slice r hr).view.set) (f := f) (Finset.Subset.refl _)) $$ H
  iintro H
  iapply Hk
  iexists _
  isplitr
  swap; · iexact H
  ipureintro; exact View.read_write_univ _ _

end Mem

/-! ## Waits -/

section Proto

variable (m : (ℓ : Loc nD τ sig) → Buf (Elt F) ℓ) (K : Dev nD × CK → ℕ) (c : Dev nD)

/-- What the steps read: the records and the levels. -/
def facts : sProp 𝕄 := iprop(records m K ∗ levAts L lv)

instance facts_persistent : BI.Persistent (facts m K) := by unfold facts; infer_instance

/-- A completed wait on one of the device's own cells hands over the cell's payload. -/
theorem wait_cell (Kt : PUnit → sProp 𝕄) (k₀ : CK) {w : TpuEff nD τ sig (Elt F) Λ₀ .tc PUnit} {k' : ℕ} (k : PUnit → Body F)
    (hw : ∀ Q : PUnit → sProp 𝕄, wpE (defs₀ (F := F)) 𝒱₀ (c : Thread nD τ) none Set.univ w Q = waitSpec (c : Thread nD τ) Set.univ (csem k₀) k' Q)
    (hk : k' = kExpect k₀) (n : ℕ) (hn : kLv k₀ ≤ n) (O : CellTallies nD τ sig Unit) (hO : Above n O) :
    iprop(facts m K ∗ cred (tallyAt (kcell (c, k₀)) () k') ∗ atPos ER (kcell (c, k₀)) 0 ∅ 0 ∗ owing (F := F) c O)
      ⊢ iprop(((atPos ER (kcell (c, k₀)) 1 ∅ 0
            ∗ bigSep ((Rd m).duties (kcell (c, k₀)) 0 \ ∅) (fun d => (Rd m).payload (kcell (c, k₀)) 0 d)) ∗ owing (F := F) c O
          -∗ WP c (k ⟨⟩) Kt) -∗ WP c (.op w k) Kt) := by
  unfold owing facts
  iintro ⟨⟨#HR, #Hlev⟩, Hc, Hat, ⟨%W, HO⟩⟩ Hk
  iapply (Rounds.wp_wait_rest_token 𝒱₀ ER (Rd m) (c : Thread nD τ) none (κ := K (c, k₀)) (sm := csem k₀)
      hw (Set.mem_univ _) () (O := O) (W := W) (R := 0) (m := 0) (T := ∅)
      (by rw [Nat.zero_add]; exact hk.trans (Rd_expect m (c, k₀)).symm)) $$ [Hc HO Hat]
  · isplitr; · iapply (inv_at m K (c, k₀)); iexact HR
    isplitl [Hc]; · iexact Hc
    isplitl [HO]; · iexact HO
    isplitr
    · iapply (mayWait_above (F := F) c (csem k₀) n O (by rw [show ((c : Thread nD τ), csem k₀) = kcell (c, k₀) from rfl, lv_kcell]; exact hn) hO)
      iexact Hlev
    iexact Hat
  iintro ⟨HO, Hat, -, Hpay⟩
  iapply Hk
  isplitl [Hat Hpay]
  · isplitl [Hat]; · iexact Hat
    iexact Hpay
  iexists _; iexact HO

/-! ## Signals and transfers -/

/-- Signalling partner `r` hands it the slots and rows it will write here. -/
theorem sig_step (Kt : PUnit → sProp 𝕄) (R : CellTallies nD τ sig Unit) (r : Fin 15) (S : Finset (Fin 15)) (k : Body F) (hr : r ∉ S) :
    iprop(facts m K ∗ (dutyTok ER (kcell (devOf c r, bar)) 0 r ∗ barPay (F := F) (devOf c r) r) ∗ owing (F := F) c (R + owB c (insert r S)))
      ⊢ iprop(((emp ∗ owing (F := F) c (R + owB c S)) -∗ WP c k Kt) -∗ WP c (sigP c r k) Kt) := by
  unfold owing facts sigP
  simp only [semSignalWord, Prog.lift, Prog.bind_op, Prog.bind_ret, Prog.pure_eq_ret]
  rw [owB_insert c hr, ← add_assoc]
  iintro ⟨⟨#HR, #Hlev⟩, ⟨Ht, Hp⟩, ⟨%W, HO⟩⟩ Hk
  iapply (Rounds.wp_signal 𝒱₀ ER (Rd m) (c : Thread nD τ) none (dst := (devOf c r : Thread nD τ)) (sem := barSem) (κ := K (devOf c r, bar))
      (r := 0) (d := r) (by rw [show ((devOf c r : Thread nD τ), SemLoc.reg barSem) = kcell (devOf c r, bar) from rfl, Rd_duties]; exact Finset.mem_univ _)
      ((Rd_amount m (devOf c r, bar) r).trans rfl) () (R + owB c S) rfl) $$ [HO Ht Hp]
  · isplitr; · iapply (inv_at m K (devOf c r, bar)); iexact HR
    isplitl [HO]; · iexact HO
    isplitl [Ht]; · iexact Ht
    isplitl [Hp]; · iapply (show barPay (F := F) (devOf c r) r ⊢ (Rd m).payload ((devOf c r : Thread nD τ), .reg barSem) 0 r from
        Entails.of_eq (Rd_payload m (devOf c r, bar) r).symm); iexact Hp
    iapply (reached_at m K (devOf c r, bar)); iexact HR
  iintro HO
  iapply Hk
  isplitr; · iempintro
  iexists W; iexact HO

/-- The first send to partner `r`. -/
theorem send1_step (Kt : PUnit → sProp 𝕄) (R : CellTallies nD τ sig Unit) (h : Fin 2) (r : Fin 15) (S : Finset (Fin 15)) (k : Body F) (hr : r ∉ S) :
    iprop(facts m K ∗ ((own c (sendW h c r) (sendVal m h c r) ∗ ownAny (F := F) (devOf c r) (slotW h r))
          ∗ (dutyTok ER (kcell (c, xk 0 h r)) 0 0 ∗ dutyTok ER (kcell (devOf c r, xk 1 h r)) 0 0))
        ∗ owing (F := F) c (R + owX 1 c h (insert r S)))
      ⊢ iprop(((cred (tallyAt (kcell (c, xk 0 h r)) () N) ∗ owing (F := F) c (R + owX 1 c h S)) -∗ WP c k Kt)
          -∗ WP c (send1P h c r k) Kt) := by
  unfold owing facts send1P ownAny own owns
  rw [owX_insert 1 c h hr, ← add_assoc]
  iintro ⟨⟨#HR, #Hlev⟩, ⟨⟨⟨%fs, %hfs, Hs⟩, ⟨%X, %fd, %hfd, Hd⟩⟩, Ht1, Ht2⟩, ⟨%W, HO⟩⟩ Hk
  iapply (Rounds.wp_send_pointsTo 𝒱₀ ER (Rd m) (c : Thread nD τ) none (c' := (devOf c r : Thread nD τ)) (src := sendW h c r) (dst := slotW h r)
    (sS := csem (xk 0 h r)) (sem := csem (xk 1 h r)) (κ₁ := K (c, xk 0 h r)) (κ₂ := K (devOf c r, xk 1 h r))
    (r₁ := 0) (r₂ := 0) (d₁ := 0) (d₂ := 0) (fd := fd)
    (by rw [show ((c : Thread nD τ), csem (xk 0 h r)) = kcell (c, xk 0 h r) from rfl, Rd_duties]; exact Finset.mem_singleton_self _)
    (by rw [show ((devOf c r : Thread nD τ), csem (xk 1 h r)) = kcell (devOf c r, xk 1 h r) from rfl, Rd_duties]; exact Finset.mem_singleton_self _)
    () () N (slotN h r) (Rd_amount m (c, xk 0 h r) 0) (Rd_amount m (devOf c r, xk 1 h r) 0) (R + owX 1 c h S) rfl (W := W)
    (by
      refine BIBase.Entails.trans ?_ (Entails.of_eq (Rd_payload m (c, xk 0 h r) 0).symm)
      show _ ⊢ own c (sendW h c r) (sendVal m h c r)
      unfold own owns
      iintro H; iexists fs; isplitr; · ipureintro; exact hfs
      iexact H)
    (by
      refine BIBase.Entails.trans ?_ (Entails.of_eq (Rd_payload m (devOf c r, xk 1 h r) 0).symm)
      show _ ⊢ own (devOf c r) (slotW h r) (landVal m h (devOf c r) r)
      unfold own owns landVal
      rw [devOf_devOf]
      iintro H; iexists _; isplitr
      swap; · iexact H
      ipureintro; rw [View.read_write_univ]; exact hfs)) $$ [Hs Hd Ht1 Ht2 HO]
  · isplitr; · iapply (inv_at m K (c, xk 0 h r)); iexact HR
    isplitr; · iapply (inv_at m K (devOf c r, xk 1 h r)); iexact HR
    isplitl [Hs]; · iexact Hs
    isplitl [Hd]; · iexact Hd
    isplitl [HO]; · iexact HO
    isplitl [Ht1]; · iexact Ht1
    isplitr; · iapply (reached_at m K (c, xk 0 h r)); iexact HR
    isplitl [Ht2]; · iexact Ht2
    iapply (reached_at m K (devOf c r, xk 1 h r)); iexact HR
  iintro ⟨Hc, HO⟩
  iapply Hk
  isplitl [Hc]; · iexact Hc
  iexists W; iexact HO

/-- The second send to partner `r`. -/
theorem send2_step (Kt : PUnit → sProp 𝕄) (R : CellTallies nD τ sig Unit) (h : Fin 2) (r : Fin 15) (S : Finset (Fin 15)) (k : Body F) (hr : r ∉ S) :
    iprop(facts m K ∗ ((owns (c : Thread nD τ) (redW h) (lent r) (redVal m h c) ∗ ownAny (F := F) (devOf c r) (gatW h c))
          ∗ (dutyTok ER (kcell (c, xk 2 h r)) 0 0 ∗ dutyTok ER (kcell (devOf c r, xk 3 h r)) 0 0))
        ∗ owing (F := F) c (R + owX 3 c h (insert r S)))
      ⊢ iprop(((cred (tallyAt (kcell (c, xk 2 h r)) () N) ∗ owing (F := F) c (R + owX 3 c h S)) -∗ WP c k Kt)
          -∗ WP c (send2P h c r k) Kt) := by
  unfold owing facts send2P ownAny own owns
  rw [owX_insert 3 c h hr, ← add_assoc]
  iintro ⟨⟨#HR, #Hlev⟩, ⟨⟨⟨%fs, %hfs, Hs⟩, ⟨%X, %fd, %hfd, Hd⟩⟩, Ht1, Ht2⟩, ⟨%W, HO⟩⟩ Hk
  iapply (Rounds.wp_send_pointsTo 𝒱₀ ER (Rd m) (c : Thread nD τ) none (c' := (devOf c r : Thread nD τ)) (src := redW h) (dst := gatW h c)
    (sS := csem (xk 2 h r)) (sem := csem (xk 3 h r)) (κ₁ := K (c, xk 2 h r)) (κ₂ := K (devOf c r, xk 3 h r))
    (r₁ := 0) (r₂ := 0) (d₁ := 0) (d₂ := 0) (fd := fd)
    (by rw [show ((c : Thread nD τ), csem (xk 2 h r)) = kcell (c, xk 2 h r) from rfl, Rd_duties]; exact Finset.mem_singleton_self _)
    (by rw [show ((devOf c r : Thread nD τ), csem (xk 3 h r)) = kcell (devOf c r, xk 3 h r) from rfl, Rd_duties]; exact Finset.mem_singleton_self _)
    () () N (gatN h c) (Rd_amount m (c, xk 2 h r) 0) (Rd_amount m (devOf c r, xk 3 h r) 0) (R + owX 3 c h S) rfl (W := W)
    (by
      refine BIBase.Entails.trans ?_ (Entails.of_eq (Rd_payload m (c, xk 2 h r) 0).symm)
      show _ ⊢ owns (c : Thread nD τ) (redW h) (lent r) (redVal m h c)
      unfold owns
      iintro H; iexists fs; isplitr; · ipureintro; exact hfs
      iexact H)
    (by
      refine BIBase.Entails.trans ?_ (Entails.of_eq (Rd_payload m (devOf c r, xk 3 h r) 0).symm)
      show _ ⊢ own (devOf c r) (gatW h (devOf (devOf c r) r)) (redVal m h (devOf (devOf c r) r))
      rw [devOf_devOf]
      unfold own owns
      iintro H; iexists _; isplitr
      swap; · iexact H
      ipureintro; rw [View.read_write_univ]; exact hfs)) $$ [Hs Hd Ht1 Ht2 HO]
  · isplitr; · iapply (inv_at m K (c, xk 2 h r)); iexact HR
    isplitr; · iapply (inv_at m K (devOf c r, xk 3 h r)); iexact HR
    isplitl [Hs]; · iexact Hs
    isplitl [Hd]; · iexact Hd
    isplitl [HO]; · iexact HO
    isplitl [Ht1]; · iexact Ht1
    isplitr; · iapply (reached_at m K (c, xk 2 h r)); iexact HR
    isplitl [Ht2]; · iexact Ht2
    iapply (reached_at m K (devOf c r, xk 3 h r)); iexact HR
  iintro ⟨Hc, HO⟩
  iapply Hk
  isplitl [Hc]; · iexact Hc
  iexists W; iexact HO

/-! ## The waits of the exchange -/

theorem wait_own (Kt : PUnit → sProp 𝕄) (o : OK) {w : TpuEff nD τ sig (Elt F) Λ₀ .tc PUnit} {k' : ℕ} (k : PUnit → Body F)
    (hw : ∀ Q : PUnit → sProp 𝕄, wpE (defs₀ (F := F)) 𝒱₀ (c : Thread nD τ) none Set.univ w Q = waitSpec (c : Thread nD τ) Set.univ (osem o) k' Q)
    (hk : k' = kAmount (.inr o)) (n : ℕ) (hn : kLv (.inr o) ≤ n) (O : CellTallies nD τ sig Unit) (hO : Above n O) :
    iprop(facts m K ∗ (cred (tallyAt (kcell (c, .inr o)) () k') ∗ atPos ER (kcell (c, .inr o)) 0 ∅ 0) ∗ owing (F := F) c O)
      ⊢ iprop((((atPos ER (kcell (c, .inr o)) 1 ∅ 0 ∗ kPay m c (.inr o) 0) ∗ owing (F := F) c O)
          -∗ WP c (k ⟨⟩) Kt) -∗ WP c (.op w k) Kt) := by
  rw [← rest_own m c o]
  iintro ⟨Hf, ⟨Hc, Ha⟩, HO⟩
  iapply (wait_cell m K c Kt (.inr o) k hw hk n hn O hO)
  isplitl [Hf]; · iexact Hf
  isplitl [Hc]; · iexact Hc
  isplitl [Ha]; · iexact Ha
  iexact HO

/-- A landing slot as a window of the buffer of slots. -/
theorem slotW_set (h : Fin 2) (r : Fin 15) : (slotW h r).view.set = ((Memref.whole cc0_scratch3 : Memref sig .tc _ _ _).access
    (Rect.unit (s := S16x16x1024) ![1 + r.val, 0, 512 * h.val] S1x16x512.size (slot_inb h r))).set := View.set_reshape _ _

/-- Waiting for partner `r`'s rows and adding them. -/
theorem recv1_step (Kt : PUnit → sProp 𝕄) (h : Fin 2) (O : CellTallies nD τ sig Unit) (hO : Above 2 O) (r : Fin 15) (a : FVec F S16x512 .f32)
    (k : FVec F S16x512 .f32 → Body F) :
    iprop(facts m K ∗ (cred (tallyAt (kcell (c, xk 1 h r)) () N) ∗ atPos ER (kcell (c, xk 1 h r)) 0 ∅ 0) ∗ owing (F := F) c O)
      ⊢ iprop((((atPos ER (kcell (c, xk 1 h r)) 1 ∅ 0 ∗ own c (slotW h r) (landVal m h c r)) ∗ owing (F := F) c O)
          -∗ WP c (k (addStep m h c a r)) Kt) -∗ WP c (recv1P h c r a k) Kt) := by
  unfold recv1P
  iintro H Hk
  iapply (wait_own m K c Kt (.inr (1, h, r)) _ (wpE_waitDma2_eq 𝒱₀ (c : Thread nD τ) none Set.univ) (slotN h r) 2 (Nat.le_refl 2) O hO) $$ H
  iintro ⟨⟨Hat, Hp⟩, HO⟩
  ihave Hp := (show kPay m c (.inr (.inr (1, h, r))) 0 ⊢ iprop(∃ f, ⌜(slotW h r).view.read (Elt F) f = landVal m h c r⌝
      ∗ (((Memref.whole cc0_scratch3 : Memref sig .tc _ _ _).access
        (Rect.unit (s := S16x16x1024) ![1 + r.val, 0, 512 * h.val] S1x16x512.size (slot_inb h r))).loc (c : Thread nD τ) ↦[(slotW h r).view.set]{fullShare} f)) from .rfl) $$ Hp
  icases Hp with ⟨%f, %hf, Hp⟩
  iapply (wp_load_rect 𝒱₀ (c : Thread nD τ) none Set.univ (m := Memref.whole cc0_scratch3)
    (r := Rect.unit (s := S16x16x1024) ![1 + r.val, 0, 512 * h.val] S1x16x512.size (slot_inb h r)) (S := (slotW h r).view.set) (f := f) (le_of_eq (slotW_set h r).symm)) $$ Hp
  iintro Hp
  have e : shapeCast S16x512 (((Memref.whole cc0_scratch3 : Memref sig .tc _ _ _).access
      (Rect.unit (s := S16x16x1024) ![1 + r.val, 0, 512 * h.val] S1x16x512.size (slot_inb h r))).read (Elt F) f) shapeCasts_S1x16x512_S16x512
      = landVal m h c r := by rw [← hf]; rfl
  rw [e]
  iapply Hk
  isplitl [Hat Hp]
  · isplitl [Hat]; · iexact Hat
    unfold own owns
    iexists f; isplitr; · ipureintro; exact hf
    iexact Hp
  iexact HO

/-- Waiting until the rows sent to partner `r` have left. -/
theorem wsend1_step (Kt : PUnit → sProp 𝕄) (h : Fin 2) (r : Fin 15) (k : Body F) :
    iprop(facts m K ∗ (cred (tallyAt (kcell (c, xk 0 h r)) () N) ∗ atPos ER (kcell (c, xk 0 h r)) 0 ∅ 0) ∗ owing (F := F) c 0)
      ⊢ iprop((((atPos ER (kcell (c, xk 0 h r)) 1 ∅ 0 ∗ own c (sendW h c r) (sendVal m h c r)) ∗ owing (F := F) c 0)
          -∗ WP c k Kt) -∗ WP c (wsend1P h c r k) Kt) :=
  wait_own m K c Kt (.inr (0, h, r)) (fun _ => k) (wpE_waitDma2_eq 𝒱₀ (c : Thread nD τ) none Set.univ) (sendN h c r) 0 (Nat.le_refl 0) 0 (above_zero 0)

/-- Waiting until the summed rows sent to partner `r` have left and the partner's have come. -/
theorem wait2_step (Kt : PUnit → sProp 𝕄) (h : Fin 2) (r : Fin 15) (k : Body F) :
    iprop(facts m K ∗ ((cred (tallyAt (kcell (c, xk 2 h r)) () N) ∗ atPos ER (kcell (c, xk 2 h r)) 0 ∅ 0)
          ∗ (cred (tallyAt (kcell (c, xk 3 h r)) () N) ∗ atPos ER (kcell (c, xk 3 h r)) 0 ∅ 0)) ∗ owing (F := F) c 0)
      ⊢ iprop(((((atPos ER (kcell (c, xk 2 h r)) 1 ∅ 0 ∗ owns (c : Thread nD τ) (redW h) (lent r) (redVal m h c))
            ∗ (atPos ER (kcell (c, xk 3 h r)) 1 ∅ 0 ∗ own c (gatW h (devOf c r)) (redVal m h (devOf c r)))) ∗ owing (F := F) c 0)
          -∗ WP c k Kt) -∗ WP c (wait2P h c r k) Kt) := by
  unfold wait2P
  iintro ⟨#Hf, ⟨H1, H2⟩, HO⟩ Hk
  iapply (wait_own m K c Kt (.inr (2, h, r)) _ (wpE_waitDma2_eq 𝒱₀ (c : Thread nD τ) none Set.univ) (redN h) 0 (Nat.le_refl 0) 0 (above_zero 0)) $$ [H1 HO]
  · isplitr; · iexact Hf
    isplitl [H1]; · iexact H1
    iexact HO
  iintro ⟨H1, HO⟩
  iapply (wait_own m K c Kt (.inr (3, h, r)) _ (wpE_waitDma2_eq 𝒱₀ (c : Thread nD τ) none Set.univ) (gatN h c) 3 (Nat.le_refl 3) 0 (above_zero 3)) $$ [H2 HO]
  · isplitr; · iexact Hf
    isplitl [H2]; · iexact H2
    iexact HO
  iintro ⟨H2, HO⟩
  iapply Hk
  isplitl [H1 H2]
  · isplitl [H1]; · iexact H1
    iexact H2
  iexact HO

end Proto

end Cert.KernelIdeal.Pf

end
-- ==== Proof.Windows.lean ====
/- How the buffers are cut into the windows the transfers move, and put together again. -/
module

public import proofs.«01_k».proof.Proof.Common
public import Idealize.ShloMosaic.Lib.Pipeline.Value

@[expose] public section

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

instance elt_inhabited (e : EltTy) : Nonempty (Elt F e) :=
  match e with
  | .i1 => ⟨(0 : BitVec 1)⟩ | .i4 => ⟨(0 : BitVec 4)⟩ | .i8 => ⟨(0 : BitVec 8)⟩
  | .i16 => ⟨(0 : BitVec 16)⟩ | .i32 => ⟨(0 : BitVec 32)⟩ | .i64 => ⟨(0 : BitVec 64)⟩
  | .fp8e4m3 => ⟨FloatOps.ofBits .fp8e4m3 0⟩ | .fp8e5m2 => ⟨FloatOps.ofBits .fp8e5m2 0⟩
  | .bf16 => ⟨FloatOps.ofBits .bf16 0⟩ | .f16 => ⟨FloatOps.ofBits .f16 0⟩ | .f32 => ⟨FloatOps.ofBits .f32 0⟩

/-! ## Separating over the partners and the halves -/

theorem bigSep_two (Φ : Fin 2 → sProp 𝕄) : bigSep Finset.univ Φ = iprop(Φ 0 ∗ Φ 1) := by
  rw [show (Finset.univ : Finset (Fin 2)) = insert 0 {1} from rfl, bigSep_insert (by decide), bigSep_singleton]; rfl

/-- The devices are one of them and its partners. -/
theorem bigSep_dev (c : Dev nD) (Φ : Dev nD → sProp 𝕄) :
    bigSep Finset.univ Φ = iprop(Φ c ∗ bigSep Finset.univ fun r : Fin 15 => Φ (devOf c r)) := by
  have e : (Finset.univ.erase c : Finset (Dev nD)) = Finset.univ.map ⟨devOf c, fun r r' h => devOf_inj c r r' h⟩ := by
    ext d
    simp only [Finset.mem_erase, Finset.mem_univ, and_true, Finset.mem_map, true_and, Function.Embedding.coeFn_mk]
    exact ⟨fun h => devOf_surj c d h, fun ⟨r, hr⟩ => hr ▸ devOf_ne c r⟩
  rw [bigSep_univ_split c, e, bigSep_map]; rfl

theorem bigSep_rows (c : Dev nD) (Φ : Fin 2 × Dev nD → sProp 𝕄) :
    bigSep Finset.univ Φ = iprop((Φ (0, c) ∗ bigSep Finset.univ fun r : Fin 15 => Φ (0, devOf c r))
      ∗ (Φ (1, c) ∗ bigSep Finset.univ fun r : Fin 15 => Φ (1, devOf c r))) := by
  rw [bigSep_univ_prod, bigSep_two, bigSep_dev c (fun d => Φ (0, d)), bigSep_dev c (fun d => Φ (1, d))]

/-- The sixteen slots are the unused one and the partners'. -/
theorem bigSep_slot (Φ : Fin 16 → sProp 𝕄) :
    bigSep Finset.univ Φ = iprop(Φ 0 ∗ bigSep Finset.univ fun r : Fin 15 => Φ ⟨1 + r.val, by omega⟩) := by
  have e : (Finset.univ.erase 0 : Finset (Fin 16))
      = Finset.univ.map ⟨fun r : Fin 15 => (⟨1 + r.val, by omega⟩ : Fin 16), fun r r' h => Fin.ext (by have := congrArg Fin.val h; have e : 1 + r.val = 1 + r'.val := this; omega)⟩ := by
    ext d
    simp only [Finset.mem_erase, Finset.mem_univ, and_true, Finset.mem_map, true_and, Function.Embedding.coeFn_mk]
    refine ⟨fun h => ⟨⟨d.val - 1, by have := d.isLt; omega⟩, Fin.ext ?_⟩, fun ⟨r, hr⟩ h => ?_⟩
    · have : d.val ≠ 0 := fun h0 => h (Fin.ext h0)
      show 1 + (d.val - 1) = d.val; omega
    · have e : 1 + r.val = 0 := congrArg Fin.val (hr.trans h); omega
  rw [bigSep_univ_split 0, e, bigSep_map]; rfl

/-! ## Families of rectangles told apart by a key -/

section Keys

variable {s : Shape} {T : Type} [Fintype T] [DecidableEq T] {r : T → Rect s} (key : s.Idx → T)
  (hk : ∀ t i, i ∈ (r t).set ↔ key i = t)
include hk

theorem key_disjoint : ∀ t t', t ≠ t' → Disjoint (r t).set (r t').set := fun t t' h =>
  Finset.disjoint_left.mpr fun i hi hi' => h (((hk t i).mp hi).symm.trans ((hk t' i).mp hi'))

theorem key_cover : Finset.univ.biUnion (fun t => (r t).set) = Finset.univ := by
  ext i
  simp only [Finset.mem_biUnion, Finset.mem_univ, true_and, iff_true]
  exact ⟨key i, (hk _ i).mpr rfl⟩

end Keys

/-- Windows of unknown contents are the whole of unknown contents. -/
theorem ownAny_of_rects (c : Dev nD) {sp : Space} {s : Shape} {e : EltTy} (M : Memref sig .tc sp s e) {T : Type} [Fintype T]
    [DecidableEq T] (r : T → Rect s) (hr : ∀ t a, (r t).stride a = 1)
    (hd : ∀ t t', t ≠ t' → Disjoint (r t).set (r t').set)
    (hcov : (Finset.univ : Finset T).biUnion (fun t => (r t).set) = Finset.univ) :
    bigSep Finset.univ (fun t => ownAny (F := F) c (M.slice (r t) (hr t))) ⊢ ownAny (F := F) c M := by
  have : ∀ t, Nonempty ((r t).shape.Idx → Elt F e) := fun t => ⟨fun _ => Classical.arbitrary _⟩
  refine (bigSep_exists_pi Finset.univ fun t (X : (r t).shape.Idx → Elt F e) => own (F := F) c (M.slice (r t) (hr t)) X).trans ?_
  iintro ⟨%X, H⟩
  iexists Rect.glue r hcov X
  iapply (owns_of_rects (c : Thread nD τ) M fullShare r hr hd hcov (Rect.glue r hcov X))
  iapply (Entails.of_eq (bigSep_congr (s := Finset.univ) (fun t _ => by
    rw [show (fun j => Rect.glue r hcov X ((r t).emb j)) = X t from funext fun j => Rect.glue_emb r hcov hd X t j])))
  iexact H

theorem own_any (c : Dev nD) {sp : Space} {s : Shape} {e : EltTy} (M : Memref sig .tc sp s e) (X : s.Idx → Elt F e) :
    own (F := F) c M X ⊢ ownAny (F := F) c M := by
  iintro H; iexists X; iexact H

/-- and the whole of unknown contents is windows of unknown contents. -/
theorem ownAny_rects (c : Dev nD) {sp : Space} {s : Shape} {e : EltTy} (M : Memref sig .tc sp s e) {T : Type} [Fintype T]
    [DecidableEq T] (r : T → Rect s) (hr : ∀ t a, (r t).stride a = 1)
    (hd : ∀ t t', t ≠ t' → Disjoint (r t).set (r t').set)
    (hcov : (Finset.univ : Finset T).biUnion (fun t => (r t).set) = Finset.univ) :
    ownAny (F := F) c M ⊢ bigSep Finset.univ (fun t => ownAny (F := F) c (M.slice (r t) (hr t))) := by
  iintro ⟨%X, H⟩
  iapply ((owns_rects (c : Thread nD τ) M fullShare r hr hd hcov X).trans (bigSep_mono (Ψ := fun t => ownAny (F := F) c (M.slice (r t) (hr t)))
    fun t _ => own_any c _ _))
  iexact H

/-! ## Ownership at one valuation, and its shares -/

theorem owns_eq (c : Dev nD) {sp : Space} {s : Shape} {e : EltTy} (M : Memref sig .tc sp s e) (q : PosShare TreeShare)
    (f : M.view.ty.Contents (Elt F)) :
    (owns (c : Thread nD τ) M q (M.view.read (Elt F) f) : sProp 𝕄) = (M.view.loc (c : Thread nD τ) ↦[M.view.set]{q} f) := by
  have h₁ : iprop(∃ g, ⌜M.view.read (Elt F) g = M.view.read (Elt F) f⌝ ∗ (M.view.loc (c : Thread nD τ) ↦[M.view.set]{q} g))
      ⊢ (M.view.loc (c : Thread nD τ) ↦[M.view.set]{q} f : sProp 𝕄) := ?_
  · exact BI.equiv_iff.mp ⟨h₁, owns_intro (c : Thread nD τ) M q f⟩
  iintro ⟨%g, %hg, H⟩
  rw [show (M.view.loc (c : Thread nD τ) ↦[M.view.set]{q} f : sProp 𝕄) = (M.view.loc (c : Thread nD τ) ↦[M.view.set]{q} g) from
    pointsTo_congr fun i hi => by
      rw [View.set, Finset.mem_map] at hi
      obtain ⟨x, -, rfl⟩ := hi
      have := congrFun hg x
      simp only [View.read] at this
      exact ((cast_inj _).mp this).symm]
  iexact H

theorem shares_eq (c : Dev nD) {sp : Space} {s : Shape} {e : EltTy} (M : Memref sig .tc sp s e) (f : M.view.ty.Contents (Elt F)) :
    (iprop(owns (c : Thread nD τ) M kept (M.view.read (Elt F) f)
        ∗ bigSep Finset.univ fun r : Fin 15 => owns (c : Thread nD τ) M (lent r) (M.view.read (Elt F) f)) : sProp 𝕄)
      = iprop((M.view.loc (c : Thread nD τ) ↦[M.view.set]{kept} f)
        ∗ bigSep Finset.univ fun r : Fin 15 => (M.view.loc (c : Thread nD τ) ↦[M.view.set]{lent r} f)) := by
  rw [owns_eq, bigSep_congr (s := Finset.univ) (fun (r : Fin 15) _ => owns_eq (F := F) c M (lent r) f)]

/-- Full ownership lent out to the fifteen partners, some kept; -/
theorem owns_lend (c : Dev nD) {sp : Space} {s : Shape} {e : EltTy} (M : Memref sig .tc sp s e) (X : s.Idx → Elt F e) :
    own (F := F) c M X ⊢ iprop(owns (c : Thread nD τ) M kept X ∗ bigSep Finset.univ fun r : Fin 15 => owns (c : Thread nD τ) M (lent r) X) := by
  unfold own
  iintro H
  ihave H := (show owns (c : Thread nD τ) M fullShare X
    ⊢ iprop(∃ f, ⌜M.view.read (Elt F) f = X⌝ ∗ (M.view.loc (c : Thread nD τ) ↦[M.view.set]{fullShare} f)) from .rfl) $$ H
  icases H with ⟨%f, %hf, H⟩
  subst hf
  iapply ((Transfers.pointsTo_toks_split fullShare 15).trans (Entails.of_eq (shares_eq c M f).symm)); iexact H

/-- and back. -/
theorem owns_unlend (c : Dev nD) {sp : Space} {s : Shape} {e : EltTy} (M : Memref sig .tc sp s e) (X : s.Idx → Elt F e) :
    iprop(owns (c : Thread nD τ) M kept X ∗ bigSep Finset.univ fun r : Fin 15 => owns (c : Thread nD τ) M (lent r) X) ⊢ own (F := F) c M X := by
  unfold own
  iintro ⟨H, Hl⟩
  ihave H := (show owns (c : Thread nD τ) M kept X
    ⊢ iprop(∃ f, ⌜M.view.read (Elt F) f = X⌝ ∗ (M.view.loc (c : Thread nD τ) ↦[M.view.set]{kept} f)) from .rfl) $$ H
  icases H with ⟨%f, %hf, H⟩
  subst hf
  iapply (owns_intro (c : Thread nD τ) M fullShare f)
  iapply ((Entails.of_eq (shares_eq c M f)).trans (Transfers.pointsTo_toks_join fullShare 15))
  isplitl [H]
  · iapply (owns_intro (c : Thread nD τ) M kept f); iexact H
  iexact Hl

/-! ## The rows and halves of the sent and the gathered buffer -/

/-- Half `t.1` of device `t.2`'s rows. -/
abbrev rowR (t : Fin 2 × Dev nD) : Rect S256x1024 := Rect.unit (s := S256x1024) (gOff t.1 t.2) S16x512.size (gOff_inb t.1 t.2)
def rowKey (i : S256x1024.Idx) : Fin 2 × Dev nD :=
  (⟨(i 1).val / 512, by have := (i 1).isLt; have h : S256x1024.size 1 = 1024 := rfl; omega⟩,
    ⟨(i 0).val / 16, by have := (i 0).isLt; have h : S256x1024.size 0 = 256 := rfl; have h' : nD = 16 := rfl; omega⟩)

theorem mem_rowR (t : Fin 2 × Dev nD) (i : S256x1024.Idx) : i ∈ (rowR t).set ↔ rowKey i = t := by
  unfold rowR
  rw [Rect.mem_set_unit, Fin.forall_fin_two, gOff_eq]
  obtain ⟨h, d⟩ := t
  rw [Prod.mk.injEq, Fin.ext_iff, Fin.ext_iff]
  show (16 * d.val ≤ (i 0).val ∧ (i 0).val < 16 * d.val + 16) ∧ (512 * h.val ≤ (i 1).val ∧ (i 1).val < 512 * h.val + 512)
    ↔ (i 1).val / 512 = h.val ∧ (i 0).val / 16 = d.val
  omega

theorem rowR_emb0 (t : Fin 2 × Dev nD) (j : S16x512.Idx) : ((rowR t).emb j 0).val = 16 * t.2.val + (j 0).val := by
  show gOff t.1 t.2 0 + 1 * (j 0).val = _; rw [gOff_eq, Nat.one_mul]; rfl
theorem rowR_emb1 (t : Fin 2 × Dev nD) (j : S16x512.Idx) : ((rowR t).emb j 1).val = 512 * t.1.val + (j 1).val := by
  show gOff t.1 t.2 1 + 1 * (j 1).val = _; rw [gOff_eq, Nat.one_mul]; rfl

/-- A window of the sent buffer is a device's rows. -/
theorem sendW_eq (h : Fin 2) (c : Dev nD) (r : Fin 15) :
    sendW h c r = (Memref.whole cc0_scratch2).slice (rowR (h, devOf c r)) (fun _ => rfl) := by
  have e : sOff h c r = gOff h (devOf c r) := (sOff_eq h c r).trans (gOff_eq h (devOf c r)).symm
  have gen : ∀ (o : Fin 2 → Nat) (ho : ∀ a, o a + S16x512.size a ≤ S256x1024.size a), o = gOff h (devOf c r) →
      ((Memref.whole cc0_scratch2).slice (Rect.unit (s := S256x1024) o S16x512.size ho) (fun _ => rfl) : Memref sig .tc .vmem S16x512 .bf16)
        = (Memref.whole cc0_scratch2).slice (rowR (h, devOf c r)) (fun _ => rfl) := by
    intro o ho e; subst e; rfl
  exact gen _ _ e

section Contents

variable (m : (ℓ : Loc nD τ sig) → Buf (Elt F) ℓ)

theorem sendVal_eq (h : Fin 2) (c : Dev nD) (r : Fin 15) :
    sendVal m h c r = fun j => sentAt m c ((rowR (h, devOf c r)).emb j) := by
  have e : sOff h c r = gOff h (devOf c r) := (sOff_eq h c r).trans (gOff_eq h (devOf c r)).symm
  have gen : ∀ (o : Fin 2 → Nat) (ho : ∀ a, o a + S16x512.size a ≤ S256x1024.size a), o = gOff h (devOf c r) →
      ((Memref.whole cc0_scratch2).slice (Rect.unit (s := S256x1024) o S16x512.size ho) (fun _ => rfl) :
        Memref sig .tc .vmem S16x512 .bf16).view.read (Elt F) (sentAt m c) = fun j => sentAt m c ((rowR (h, devOf c r)).emb j) := by
    intro o ho e; subst e; rfl
  exact gen _ _ e

theorem redVal_congr {h h' : Fin 2} {d d' : Dev nD} {i i' : S16x512.Idx} (e₁ : h = h') (e₂ : d = d') (e₃ : i = i') :
    redVal m h d i = redVal m h' d' i' := by subst e₁ e₂ e₃; rfl

theorem ix2_eq {n₀ n₁ : Nat} (j : (⟨2, ![n₀, n₁]⟩ : Shape).Idx) (a b : Nat) (ha : a < n₀) (hb : b < n₁) (h0 : a = (j 0).val) (h1 : b = (j 1).val) :
    ix2 a b ha hb = j := by
  funext k
  match k with
  | ⟨0, _⟩ => exact Fin.ext h0
  | ⟨1, _⟩ => exact Fin.ext h1

/-- The gathered rows of a device, half by half. -/
theorem gatAt_row (t : Fin 2 × Dev nD) : (fun j => gatAt m ((rowR t).emb j)) = redVal m t.1 t.2 := by
  funext j
  have h0 := rowR_emb0 t j
  have h1 := rowR_emb1 t j
  have b0 : (j 0).val < 16 := (j 0).isLt
  have b1 : (j 1).val < 512 := (j 1).isLt
  have eh : (⟨((rowR t).emb j 1).val / 512, by omega⟩ : Fin 2) = t.1 := Fin.ext (by show ((rowR t).emb j 1).val / 512 = _; omega)
  have ed : (⟨((rowR t).emb j 0).val / 16, by have := t.2.isLt; omega⟩ : Dev nD) = t.2 := Fin.ext (by show ((rowR t).emb j 0).val / 16 = _; omega)
  exact redVal_congr m eh ed (ix2_eq (n₀ := 16) (n₁ := 512) j _ _ _ _ (by omega) (by omega))

end Contents

/-! ## The halves of the summed rows -/

abbrev redR (h : Fin 2) : Rect S16x1024 := Rect.unit (s := S16x1024) ![0, 512 * h.val] S16x512.size (red_inb h)
def redKey (i : S16x1024.Idx) : Fin 2 := ⟨(i 1).val / 512, by have := (i 1).isLt; have h : S16x1024.size 1 = 1024 := rfl; omega⟩

theorem mem_redR (h : Fin 2) (i : S16x1024.Idx) : i ∈ (redR h).set ↔ redKey i = h := by
  unfold redR
  rw [Rect.mem_set_unit, Fin.forall_fin_two, Fin.ext_iff]
  have := (i 0).isLt
  have e : S16x1024.size 0 = 16 := rfl
  show (0 ≤ (i 0).val ∧ (i 0).val < 0 + 16) ∧ (512 * h.val ≤ (i 1).val ∧ (i 1).val < 512 * h.val + 512) ↔ (i 1).val / 512 = h.val
  omega

theorem redR_emb0 (h : Fin 2) (j : S16x512.Idx) : ((redR h).emb j 0).val = (j 0).val := by
  show 0 + 1 * (j 0).val = _; omega
theorem redR_emb1 (h : Fin 2) (j : S16x512.Idx) : ((redR h).emb j 1).val = 512 * h.val + (j 1).val := by
  show 512 * h.val + 1 * (j 1).val = _; omega

theorem redAt_half (m : (ℓ : Loc nD τ sig) → Buf (Elt F) ℓ) (c : Dev nD) (h : Fin 2) :
    (fun j => redAt m c ((redR h).emb j)) = redVal m h c := by
  funext j
  have h0 := redR_emb0 h j
  have h1 := redR_emb1 h j
  have b0 : (j 0).val < 16 := (j 0).isLt
  have b1 : (j 1).val < 512 := (j 1).isLt
  have eh : (⟨((redR h).emb j 1).val / 512, by omega⟩ : Fin 2) = h := Fin.ext (by show ((redR h).emb j 1).val / 512 = _; omega)
  exact redVal_congr m eh rfl (ix2_eq (n₀ := 16) (n₁ := 512) j _ _ _ _ (by omega) (by omega))

/-! ## The eight heads -/

abbrev headR (j : Fin 8) : Rect S256x1024 := Rect.unit (s := S256x1024) ![0, 128 * j.val] S256x128.size (head_inb j)
def headKey (i : S256x1024.Idx) : Fin 8 := ⟨(i 1).val / 128, by have := (i 1).isLt; have h : S256x1024.size 1 = 1024 := rfl; omega⟩

theorem mem_headR (j : Fin 8) (i : S256x1024.Idx) : i ∈ (headR j).set ↔ headKey i = j := by
  unfold headR
  rw [Rect.mem_set_unit, Fin.forall_fin_two, Fin.ext_iff]
  have := (i 0).isLt
  have e : S256x1024.size 0 = 256 := rfl
  show (0 ≤ (i 0).val ∧ (i 0).val < 0 + 256) ∧ (128 * j.val ≤ (i 1).val ∧ (i 1).val < 128 * j.val + 128) ↔ (i 1).val / 128 = j.val
  omega

theorem attnAt_head (m : (ℓ : Loc nD τ sig) → Buf (Elt F) ℓ) (c : Dev nD) (t : Fin 8) :
    (fun j => attnAt m c ((headR t).emb j)) = headAt m c t := by
  funext j
  have h0 : ((headR t).emb j 0).val = (j 0).val := by show 0 + 1 * (j 0).val = _; omega
  have h1 : ((headR t).emb j 1).val = 128 * t.val + (j 1).val := by show 128 * t.val + 1 * (j 1).val = _; omega
  have b0 : (j 0).val < 256 := (j 0).isLt
  have b1 : (j 1).val < 128 := (j 1).isLt
  have eh : (⟨((headR t).emb j 1).val / 128, by omega⟩ : Fin 8) = t := Fin.ext (by show ((headR t).emb j 1).val / 128 = _; omega)
  exact congr (congrArg (headAt m c) eh) (ix2_eq (n₀ := 256) (n₁ := 128) j _ _ _ _ (by omega) (by omega))

/-! ## The landing slots -/

theorem slotR_inb : ∀ (t : Fin 2 × Fin 16) a,
    (![t.2.val, 0, 512 * t.1.val] : Fin 3 → Nat) a + S1x16x512.size a ≤ S16x16x1024.size a := by decide +kernel
abbrev slotR (t : Fin 2 × Fin 16) : Rect S16x16x1024 :=
  Rect.unit (s := S16x16x1024) ![t.2.val, 0, 512 * t.1.val] S1x16x512.size (slotR_inb t)
def slotKey (i : S16x16x1024.Idx) : Fin 2 × Fin 16 :=
  (⟨(i 2).val / 512, by have := (i 2).isLt; have h : S16x16x1024.size 2 = 1024 := rfl; omega⟩, ⟨(i 0).val, (i 0).isLt⟩)

theorem mem_slotR (t : Fin 2 × Fin 16) (i : S16x16x1024.Idx) : i ∈ (slotR t).set ↔ slotKey i = t := by
  unfold slotR
  obtain ⟨h, s⟩ := t
  rw [Rect.mem_set_unit, Prod.mk.injEq, Fin.ext_iff, Fin.ext_iff]
  have := (i 1).isLt
  have e : S16x16x1024.size 1 = 16 := rfl
  refine (show (∀ a : Fin 3, _) ↔ _ from Fin.forall_fin_succ).trans ((and_congr Iff.rfl Fin.forall_fin_two).trans ?_)
  show (s.val ≤ (i 0).val ∧ (i 0).val < s.val + 1) ∧ (0 ≤ (i 1).val ∧ (i 1).val < 0 + 16)
    ∧ (512 * h.val ≤ (i 2).val ∧ (i 2).val < 512 * h.val + 512) ↔ (i 2).val / 512 = h.val ∧ (i 0).val = s.val
  omega

/-- A slot of unknown contents, flattened or not. -/
theorem slot_any (c : Dev nD) (h : Fin 2) (r : Fin 15) :
    ownAny (F := F) c ((Memref.whole cc0_scratch3).slice (slotR (h, ⟨1 + r.val, by omega⟩)) (fun _ => rfl) : Memref sig .tc .vmem S1x16x512 .bf16)
      = ownAny (F := F) c (slotW h r) := by
  have hs : (slotW h r).view.set = ((Memref.whole cc0_scratch3 : Memref sig .tc _ _ _).slice (slotR (h, ⟨1 + r.val, by omega⟩)) (fun _ => rfl)).view.set :=
    View.set_reshape _ _
  have h₁ : ownAny (F := F) c ((Memref.whole cc0_scratch3).slice (slotR (h, ⟨1 + r.val, by omega⟩)) (fun _ => rfl) : Memref sig .tc .vmem S1x16x512 .bf16)
      ⊢ ownAny (F := F) c (slotW h r) := by
    unfold ownAny own owns
    iintro ⟨%X, %f, -, H⟩
    iexists (slotW h r).view.read (Elt F) f
    iexists f
    isplitr; · ipureintro; rfl
    rw [hs]; iexact H
  have h₂ : ownAny (F := F) c (slotW h r)
      ⊢ ownAny (F := F) c ((Memref.whole cc0_scratch3).slice (slotR (h, ⟨1 + r.val, by omega⟩)) (fun _ => rfl) : Memref sig .tc .vmem S1x16x512 .bf16) := by
    unfold ownAny own owns
    iintro ⟨%X, %f, -, H⟩
    iexists ((Memref.whole cc0_scratch3).slice (slotR (h, ⟨1 + r.val, by omega⟩)) (fun _ => rfl) : Memref sig .tc .vmem S1x16x512 .bf16).view.read (Elt F) f
    iexists f
    isplitr; · ipureintro; rfl
    rw [← hs]; iexact H
  exact BI.equiv_iff.mp ⟨h₁, h₂⟩

/-! ## Each buffer cut and put together -/

section Buffers

variable (m : (ℓ : Loc nD τ sig) → Buf (Elt F) ℓ) (c : Dev nD)

/-- A half of the sent rows of device `c` that go to no partner. -/
abbrev restW (h : Fin 2) : Memref sig .tc .vmem S16x512 .bf16 := (Memref.whole cc0_scratch2).slice (rowR (h, c)) (fun _ => rfl)

theorem send_cut : own c (Memref.whole cc0_scratch2) (sentAt m c)
    ⊢ iprop(((bigSep Finset.univ fun r : Fin 15 => own c (sendW 0 c r) (sendVal m 0 c r))
        ∗ bigSep Finset.univ fun r : Fin 15 => own c (sendW 1 c r) (sendVal m 1 c r))
      ∗ (ownAny (F := F) c (restW c 0) ∗ ownAny (F := F) c (restW c 1))) := by
  refine (owns_rects (c : Thread nD τ) (Memref.whole cc0_scratch2) fullShare rowR (fun _ _ => rfl)
    (key_disjoint rowKey mem_rowR) (key_cover rowKey mem_rowR) (sentAt m c)).trans ?_
  rw [bigSep_rows c]
  simp only [sendW_eq, sendVal_eq]
  iintro ⟨⟨H0, H1⟩, ⟨H2, H3⟩⟩
  isplitl [H1 H3]
  · isplitl [H1] <;> iassumption
  isplitl [H0]
  · iapply (own_any c (restW c 0) _); iexact H0
  iapply (own_any c (restW c 1) _); iexact H2

theorem send_join : iprop(((bigSep Finset.univ fun r : Fin 15 => own c (sendW 0 c r) (sendVal m 0 c r))
        ∗ bigSep Finset.univ fun r : Fin 15 => own c (sendW 1 c r) (sendVal m 1 c r))
      ∗ (ownAny (F := F) c (restW c 0) ∗ ownAny (F := F) c (restW c 1))) ⊢ ownAny (F := F) c (Memref.whole cc0_scratch2) := by
  refine BIBase.Entails.trans ?_ (ownAny_of_rects c (Memref.whole cc0_scratch2) rowR (fun _ _ => rfl)
    (key_disjoint rowKey mem_rowR) (key_cover rowKey mem_rowR))
  rw [bigSep_rows c]
  simp only [sendW_eq]
  have any : ∀ h : Fin 2, (bigSep Finset.univ fun r : Fin 15 => own c (restW (devOf c r) h) (sendVal m h c r))
      ⊢ bigSep Finset.univ fun r : Fin 15 => ownAny (F := F) c (restW (devOf c r) h) :=
    fun h => bigSep_mono fun r _ => own_any c _ _
  iintro ⟨⟨H1, H3⟩, ⟨H0, H2⟩⟩
  isplitl [H0 H1]
  · isplitl [H0]; · iexact H0
    iapply (any 0); iexact H1
  isplitl [H2]; · iexact H2
  iapply (any 1); iexact H3

abbrev rest3 (h : Fin 2) : Memref sig .tc .vmem S1x16x512 .bf16 := (Memref.whole cc0_scratch3).slice (slotR (h, 0)) (fun _ => rfl)

theorem slot_rows : (bigSep Finset.univ fun t => ownAny (F := F) c ((Memref.whole cc0_scratch3).slice (slotR t) (fun _ => rfl) : Memref sig .tc .vmem S1x16x512 .bf16))
    = iprop((ownAny (F := F) c (rest3 0) ∗ bigSep Finset.univ fun r : Fin 15 => ownAny (F := F) c (slotW 0 r))
      ∗ (ownAny (F := F) c (rest3 1) ∗ bigSep Finset.univ fun r : Fin 15 => ownAny (F := F) c (slotW 1 r))) := by
  rw [bigSep_univ_prod, bigSep_two, bigSep_slot, bigSep_slot]
  simp only [slot_any]
  rfl

theorem slot_cut : ownAny (F := F) c (Memref.whole cc0_scratch3)
    ⊢ iprop(((bigSep Finset.univ fun r : Fin 15 => ownAny (F := F) c (slotW 0 r))
        ∗ bigSep Finset.univ fun r : Fin 15 => ownAny (F := F) c (slotW 1 r))
      ∗ (ownAny (F := F) c (rest3 0) ∗ ownAny (F := F) c (rest3 1))) := by
  refine (ownAny_rects c (Memref.whole cc0_scratch3) slotR (fun _ _ => rfl)
    (key_disjoint slotKey mem_slotR) (key_cover slotKey mem_slotR)).trans ((Entails.of_eq (slot_rows c)).trans ?_)
  iintro ⟨⟨H0, H1⟩, ⟨H2, H3⟩⟩
  isplitl [H1 H3]
  · isplitl [H1] <;> iassumption
  isplitl [H0] <;> iassumption

theorem slot_join : iprop(((bigSep Finset.univ fun r : Fin 15 => own c (slotW 0 r) (landVal m 0 c r))
        ∗ bigSep Finset.univ fun r : Fin 15 => own c (slotW 1 r) (landVal m 1 c r))
      ∗ (ownAny (F := F) c (rest3 0) ∗ ownAny (F := F) c (rest3 1))) ⊢ ownAny (F := F) c (Memref.whole cc0_scratch3) := by
  refine BIBase.Entails.trans ?_ ((Entails.of_eq (slot_rows c).symm).trans (ownAny_of_rects c (Memref.whole cc0_scratch3) slotR (fun _ _ => rfl)
    (key_disjoint slotKey mem_slotR) (key_cover slotKey mem_slotR)))
  have any : ∀ h : Fin 2, (bigSep Finset.univ fun r : Fin 15 => own c (slotW h r) (landVal m h c r))
      ⊢ bigSep Finset.univ fun r : Fin 15 => ownAny (F := F) c (slotW h r) :=
    fun h => bigSep_mono fun r _ => own_any c _ _
  iintro ⟨⟨H1, H3⟩, ⟨H0, H2⟩⟩
  isplitl [H0 H1]
  · isplitl [H0]; · iexact H0
    iapply (any 0); iexact H1
  isplitl [H2]; · iexact H2
  iapply (any 1); iexact H3

theorem gat_cut : ownAny (F := F) c (Memref.whole cc0_scratch5)
    ⊢ iprop(((bigSep Finset.univ fun r : Fin 15 => ownAny (F := F) c (gatW 0 (devOf c r)))
        ∗ bigSep Finset.univ fun r : Fin 15 => ownAny (F := F) c (gatW 1 (devOf c r)))
      ∗ (ownAny (F := F) c (gatW 0 c) ∗ ownAny (F := F) c (gatW 1 c))) := by
  refine (ownAny_rects c (Memref.whole cc0_scratch5) rowR (fun _ _ => rfl)
    (key_disjoint rowKey mem_rowR) (key_cover rowKey mem_rowR)).trans ?_
  rw [bigSep_rows c]
  iintro ⟨⟨H0, H1⟩, ⟨H2, H3⟩⟩
  isplitl [H1 H3]
  · isplitl [H1]
    · iexact H1
    iexact H3
  isplitl [H0]
  · iexact H0
  iexact H2

theorem gat_join : iprop(((bigSep Finset.univ fun r : Fin 15 => own c (gatW 0 (devOf c r)) (redVal m 0 (devOf c r)))
        ∗ bigSep Finset.univ fun r : Fin 15 => own c (gatW 1 (devOf c r)) (redVal m 1 (devOf c r)))
      ∗ (own c (gatW 0 c) (redVal m 0 c) ∗ own c (gatW 1 c) (redVal m 1 c))) ⊢ own c (Memref.whole cc0_scratch5) (gatAt m) := by
  refine BIBase.Entails.trans ?_ (owns_of_rects (c : Thread nD τ) (Memref.whole cc0_scratch5) fullShare rowR (fun _ _ => rfl)
    (key_disjoint rowKey mem_rowR) (key_cover rowKey mem_rowR) (gatAt m))
  rw [bigSep_rows c]
  simp only [gatAt_row]
  iintro ⟨⟨H1, H3⟩, ⟨H0, H2⟩⟩
  isplitl [H0 H1]
  · isplitl [H0]
    · iexact H0
    iexact H1
  isplitl [H2]
  · iexact H2
  iexact H3

theorem red_cut : ownAny (F := F) c (Memref.whole cc0_scratch4) ⊢ iprop(ownAny (F := F) c (redW 0) ∗ ownAny (F := F) c (redW 1)) := by
  refine (ownAny_rects c (Memref.whole cc0_scratch4) redR (fun _ _ => rfl) (key_disjoint redKey mem_redR) (key_cover redKey mem_redR)).trans ?_
  rw [bigSep_two]; exact .rfl

theorem red_join (q : PosShare TreeShare) : (iprop(owns (c : Thread nD τ) (redW 0) q (redVal m 0 c) ∗ owns (c : Thread nD τ) (redW 1) q (redVal m 1 c)) : sProp 𝕄)
    ⊢ owns (c : Thread nD τ) (Memref.whole cc0_scratch4) q (redAt m c) := by
  refine BIBase.Entails.trans ?_ (owns_of_rects (c : Thread nD τ) (Memref.whole cc0_scratch4) q redR (fun _ _ => rfl)
    (key_disjoint redKey mem_redR) (key_cover redKey mem_redR) (redAt m c))
  rw [bigSep_two]; simp only [redAt_half]
  iintro ⟨H0, H1⟩
  isplitl [H0]
  · iexact H0
  iexact H1

theorem red_split (q : PosShare TreeShare) : (owns (c : Thread nD τ) (Memref.whole cc0_scratch4) q (redAt m c) : sProp 𝕄)
    ⊢ iprop(owns (c : Thread nD τ) (redW 0) q (redVal m 0 c) ∗ owns (c : Thread nD τ) (redW 1) q (redVal m 1 c)) := by
  refine (owns_rects (c : Thread nD τ) (Memref.whole cc0_scratch4) q redR (fun _ _ => rfl)
    (key_disjoint redKey mem_redR) (key_cover redKey mem_redR) (redAt m c)).trans ?_
  rw [bigSep_two]; simp only [redAt_half]
  iintro ⟨H0, H1⟩
  isplitl [H0]
  · iexact H0
  iexact H1

abbrev headW (j : Fin 8) : Memref sig .tc .vmem S256x128 .bf16 := (Memref.whole cc0_scratch0).slice (headR j) (fun _ => rfl)

theorem attn_cut : ownAny (F := F) c (Memref.whole cc0_scratch0) ⊢ bigSep Finset.univ fun j : Fin 8 => ownAny (F := F) c (headW j) :=
  ownAny_rects c (Memref.whole cc0_scratch0) headR (fun _ _ => rfl) (key_disjoint headKey mem_headR) (key_cover headKey mem_headR)

theorem attn_join : (bigSep Finset.univ fun j : Fin 8 => own c (headW j) (headAt m c j)) ⊢ own c (Memref.whole cc0_scratch0) (attnAt m c) := by
  refine BIBase.Entails.trans ?_ (owns_of_rects (c : Thread nD τ) (Memref.whole cc0_scratch0) fullShare headR (fun _ _ => rfl)
    (key_disjoint headKey mem_headR) (key_cover headKey mem_headR) (attnAt m c))
  simp only [attnAt_head]; exact .rfl

/-! The device's own rows of the gathered buffer, as one window. -/

theorem off8_eq : ∀ d : Dev nD, k0_off8 d = ![16 * d.val, 0] := by decide +kernel

abbrev mineW : Memref sig .tc .vmem S16x1024 .bf16 :=
  (Memref.whole cc0_scratch5).slice (Rect.unit (s := S256x1024) (k0_off8 c) S16x1024.size (k0_off8_inb c)) (fun _ => rfl)

theorem mine_emb (h : Fin 2) (j : S16x512.Idx) :
    ((mineW c).slice (redR h) (fun _ => rfl)).view.emb j = (gatW h c).view.emb j := by
  funext a
  apply Fin.ext
  match a with
  | ⟨0, _⟩ =>
    show k0_off8 c 0 + 1 * (0 + 1 * (j 0).val) = gOff h c 0 + 1 * (j 0).val
    rw [off8_eq, gOff_eq]; show 16 * c.val + 1 * (0 + 1 * (j 0).val) = 16 * c.val + 1 * (j 0).val; omega
  | ⟨1, _⟩ =>
    show k0_off8 c 1 + 1 * (512 * h.val + 1 * (j 1).val) = gOff h c 1 + 1 * (j 1).val
    rw [off8_eq, gOff_eq]; show 0 + 1 * (512 * h.val + 1 * (j 1).val) = 512 * h.val + 1 * (j 1).val; omega

theorem mine_set (h : Fin 2) : ((mineW c).slice (redR h) (fun _ => rfl)).view.set = (gatW h c).view.set :=
  congrArg (fun e => Finset.univ.map e) (DFunLike.ext _ _ (mine_emb c h) :
    (((mineW c).slice (redR h) (fun _ => rfl)).view.emb : S16x512.Idx ↪ S256x1024.Idx) = (gatW h c).view.emb)

theorem mine_owns (h : Fin 2) (X : Vec F S16x512 .bf16) :
    own (F := F) c ((mineW c).slice (redR h) (fun _ => rfl)) X = own (F := F) c (gatW h c) X := by
  have hr : ∀ f : Vec F S256x1024 .bf16, ((mineW c).slice (redR h) (fun _ => rfl)).view.read (Elt F) f = (gatW h c).view.read (Elt F) f :=
    fun f => funext fun j => congrArg f (mine_emb c h j)
  have h₁ : own (F := F) c ((mineW c).slice (redR h) (fun _ => rfl)) X ⊢ own (F := F) c (gatW h c) X := by
    unfold own owns
    iintro ⟨%f, %hf, H⟩
    iexists f
    isplitr; · ipureintro; exact (hr f).symm.trans hf
    rw [← mine_set]; iexact H
  have h₂ : own (F := F) c (gatW h c) X ⊢ own (F := F) c ((mineW c).slice (redR h) (fun _ => rfl)) X := by
    unfold own owns
    iintro ⟨%f, %hf, H⟩
    iexists f
    isplitr; · ipureintro; exact (hr f).trans hf
    rw [mine_set]; iexact H
  exact BI.equiv_iff.mp ⟨h₁, h₂⟩

theorem mine_join : iprop(ownAny (F := F) c (gatW 0 c) ∗ ownAny (F := F) c (gatW 1 c)) ⊢ ownAny (F := F) c (mineW c) := by
  refine BIBase.Entails.trans ?_ (ownAny_of_rects c (mineW c) redR (fun _ _ => rfl) (key_disjoint redKey mem_redR) (key_cover redKey mem_redR))
  rw [bigSep_two]
  unfold ownAny
  simp only [mine_owns]; exact .rfl

theorem mine_split : own c (mineW c) (k0_pay33 (redAt m c)) ⊢ iprop(own c (gatW 0 c) (redVal m 0 c) ∗ own c (gatW 1 c) (redVal m 1 c)) := by
  have e : k0_pay33 (redAt m c) = redAt m c := shapeCast_self _ _
  rw [e]
  refine (owns_rects (c : Thread nD τ) (mineW c) fullShare redR (fun _ _ => rfl)
    (key_disjoint redKey mem_redR) (key_cover redKey mem_redR) (redAt m c)).trans ?_
  rw [bigSep_two]
  simp only [redAt_half]
  rw [← mine_owns c 0, ← mine_owns c 1]

/-! A device's columns of a key or value weight. -/

theorem kv_cut (M : Memref sig .tc .hbm S1024x4096 .f32) (f : M.view.ty.Contents (Elt F)) :
    own (F := F) c M (M.view.read (Elt F) f)
      ⊣⊢ iprop(own c (kvW M c) ((kvW M c).view.read (Elt F) f)
        ∗ (M.view.loc (c : Thread nD τ) ↦[M.view.set \ (kvW M c).view.set]{fullShare} f)) := by
  unfold own
  rw [owns_eq, show (owns (c : Thread nD τ) (kvW M c) fullShare ((kvW M c).view.read (Elt F) f) : sProp 𝕄) = _ from owns_eq c (kvW M c) fullShare f]
  exact pointsTo_split_subset (View.set_slice_subset _ _)

end Buffers

end Cert.KernelIdeal.Pf

end
-- ==== Proof.Phases.lean ====
/- The kernel's body phase by phase: each phase takes the resources it needs and hands back those it leaves. -/
module

public import proofs.«01_k».proof.Proof.Steps
public import proofs.«01_k».proof.Proof.Windows

@[expose] public section

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- One assertion for each partner. -/
abbrev each (Φ : Fin 15 → sProp 𝕄) : sProp 𝕄 := bigSep Finset.univ Φ

theorem each_sep (Φ Ψ : Fin 15 → sProp 𝕄) : each (fun r => iprop(Φ r ∗ Ψ r)) = iprop(each Φ ∗ each Ψ) := bigSep_sep' _ _ _

section Loops

variable (c : Dev nD)

theorem wp_parts (Kt : PUnit → sProp 𝕄) (b : Fin 15 → Body F → Body F) (P : sProp 𝕄) [BI.Persistent P] (A B : Fin 15 → sProp 𝕄)
    (I : Finset (Fin 15) → sProp 𝕄)
    (step : ∀ a S k, a ∉ S → iprop(P ∗ A a ∗ I (insert a S)) ⊢ iprop(((B a ∗ I S) -∗ WP c k Kt) -∗ WP c (b a k) Kt)) (k : Body F) :
    iprop(P ∗ each A ∗ I Finset.univ) ⊢ iprop(((each B ∗ I ∅) -∗ WP c k Kt) -∗ WP c (seqL b parts k) Kt) := by
  have h := wp_seqL c Kt b P A B I step parts parts_nodup k
  rwa [parts_toFinset] at h

end Loops

/-! ## Whole buffers -/

section Whole

variable (c : Dev nD)

theorem own_whole (b : Ref sig .tc) (q : PosShare TreeShare) (X : b.ty.Contents (Elt F)) :
    (owns (c : Thread nD τ) (Memref.whole b) q X : sProp 𝕄) = ((c : Thread nD τ).loc b ↦{q} X) := owns_whole (c : Thread nD τ) b q X

theorem ownAny_whole (b : Ref sig .tc) :
    ownAny (F := F) c (Memref.whole b) = (iprop(∃ f : Buf (Elt F) ((c : Thread nD τ).loc b), ((c : Thread nD τ).loc b) ↦{fullShare} f) : sProp 𝕄) := by
  unfold ownAny own
  simp only [own_whole]

theorem z2 : (![0, 0] : Fin 2 → Nat) = fun _ => 0 := funext fun a => by fin_cases a <;> rfl
theorem z3 : (![0, 0, 0] : Fin 3 → Nat) = fun _ => 0 := funext fun a => by fin_cases a <;> rfl

/-- Loading a whole buffer. -/
theorem wp_load_all (Kt : PUnit → sProp 𝕄) {cs : CoreSpace} {s : Shape} {e : EltTy} (M : Memref sig .tc cs s e) (r : Rect s)
    {hl : M.view.LoadsAt r.toLoadRect} {k : (r.shape.Idx → Elt F e) → Body F} {q : PosShare TreeShare} (X : s.Idx → Elt F e) (Y : r.shape.Idx → Elt F e)
    (h : ∀ f, M.view.read (Elt F) f = X → (M.access r).read (Elt F) f = Y) :
    owns (c : Thread nD τ) M q X
      ⊢ iprop((owns (c : Thread nD τ) M q X -∗ WP c (k Y) Kt) -∗ WP c (.op (.load M r.toLoadRect hl) k) Kt) := by
  unfold owns
  iintro ⟨%f, %hf, H⟩ Hk
  iapply (wp_load_rect 𝒱₀ (c : Thread nD τ) none Set.univ (m := M) (r := r) (hl := hl) (S := M.view.set) (f := f) (View.set_slice_subset _ _)) $$ H
  iintro H
  rw [h f hf]
  iapply Hk
  iexists f
  isplitr; · ipureintro; exact hf
  iexact H

/-- Storing a whole buffer. -/
theorem wp_store_all (Kt : PUnit → sProp 𝕄) {cs : CoreSpace} {s : Shape} {e : EltTy} (M : Memref sig .tc cs s e) (r : Rect s)
    {w : r.shape.Idx → Elt F e} {hx : (M.access r).Stores Finset.univ} {hm : Finset.univ = Finset.univ ∨ ∀ a, r.stride a = 1}
    {k : PUnit → Body F} (Y : s.Idx → Elt F e)
    (h : ∀ f, M.view.read (Elt F) ((M.access r).write (Elt F) f w Finset.univ) = Y) :
    ownAny (F := F) c M ⊢ iprop((own c M Y -∗ WP c (k ⟨⟩) Kt) -∗ WP c (.op (.store M r w Finset.univ hx hm) k) Kt) := by
  unfold ownAny own owns
  iintro ⟨%X, %f, -, H⟩ Hk
  iapply (wp_store 𝒱₀ (c : Thread nD τ) none Set.univ (m := M) (r := r) (w := w) (Mk := Finset.univ) (hx := hx) (hm := hm)
    (S := M.view.set) (f := f) (View.set_slice_subset _ _)) $$ H
  iintro H
  iapply Hk
  iexists _
  isplitr
  swap; · iexact H
  ipureintro; exact h f

end Whole

section Proto

variable (m : (ℓ : Loc nD τ sig) → Buf (Elt F) ℓ) (K : Dev nD × CK → ℕ) (c : Dev nD)

/-! ## Handing out the slots and rows -/

/-- What device `c` hands partner `r` by signalling it. -/
theorem barPay_out (r : Fin 15) : barPay (F := F) (devOf c r) r
    = iprop((ownAny (F := F) c (slotW 0 r) ∗ ownAny (F := F) c (slotW 1 r))
      ∗ (ownAny (F := F) c (gatW 0 (devOf c r)) ∗ ownAny (F := F) c (gatW 1 (devOf c r)))) := by
  unfold barPay; rw [devOf_devOf]

/-- What all partners hand device `c`. -/
theorem barPay_in : each (fun r => barPay (F := F) c r)
    = iprop((each (fun r => ownAny (F := F) (devOf c r) (slotW 0 r)) ∗ each (fun r => ownAny (F := F) (devOf c r) (slotW 1 r)))
      ∗ (each (fun r => ownAny (F := F) (devOf c r) (gatW 0 c)) ∗ each (fun r => ownAny (F := F) (devOf c r) (gatW 1 c)))) := by
  unfold barPay; simp only [each_sep]

theorem sig_phase (Kt : PUnit → sProp 𝕄) (R : CellTallies nD τ sig Unit) (k : Body F) :
    iprop(facts m K ∗ (each (fun r => dutyTok ER (kcell (devOf c r, bar)) 0 r)
        ∗ ((each (fun r => ownAny (F := F) c (slotW 0 r)) ∗ each (fun r => ownAny (F := F) c (slotW 1 r)))
          ∗ (each (fun r => ownAny (F := F) c (gatW 0 (devOf c r))) ∗ each (fun r => ownAny (F := F) c (gatW 1 (devOf c r))))))
        ∗ owing (F := F) c (R + owB c Finset.univ))
      ⊢ iprop((owing (F := F) c R -∗ WP c k Kt) -∗ WP c (seqL (sigP c) parts k) Kt) := by
  have h := wp_parts c Kt (sigP c) (facts m K)
    (fun r => iprop(dutyTok ER (kcell (devOf c r, bar)) 0 r ∗ barPay (F := F) (devOf c r) r)) (fun _ => iprop(emp))
    (fun S => owing (F := F) c (R + owB c S)) (fun r S k hr => sig_step m K c Kt R r S k hr) k
  simp only [barPay_out, each_sep, owB_empty, add_zero] at h
  iintro H Hk
  iapply h $$ H
  iintro ⟨-, H⟩
  iapply Hk
  iexact H

/-- The partners' slots and rows, from a full barrier. -/
theorem bar_wait (Kt : PUnit → sProp 𝕄) (O : CellTallies nD τ sig Unit) (hO : Above 1 O) (k : Body F) :
    iprop(facts m K ∗ cred (tallyAt (kcell (c, bar)) () 15) ∗ atPos ER (kcell (c, bar)) 0 ∅ 0 ∗ owing (F := F) c O)
      ⊢ iprop(((atPos ER (kcell (c, bar)) 1 ∅ 0
            ∗ ((each (fun r => ownAny (F := F) (devOf c r) (slotW 0 r)) ∗ each (fun r => ownAny (F := F) (devOf c r) (slotW 1 r)))
              ∗ (each (fun r => ownAny (F := F) (devOf c r) (gatW 0 c)) ∗ each (fun r => ownAny (F := F) (devOf c r) (gatW 1 c)))) ∗ owing (F := F) c O)
          -∗ WP c k Kt) -∗ WP c (semWaitWord barSem 15#32 >>= fun _ => k) Kt) := by
  simp only [semWaitWord, Prog.lift, Prog.bind_op, Prog.bind_ret, Prog.pure_eq_ret]
  iintro H Hk
  iapply (wait_cell m K c Kt bar (w := .semWait barSem 15) (k' := 15) (fun _ => k) (fun Q => wpE_semWait_eq 𝒱₀ (c : Thread nD τ) none Set.univ Q) rfl 1 (Nat.le_refl 1) O hO) $$ H
  iintro ⟨⟨Hat, Hp⟩, HO⟩
  ihave Hp := (Entails.of_eq ((rest_bar m c).trans (barPay_in c))) $$ Hp
  iapply Hk
  isplitl [Hat]; · iexact Hat
  isplitl [Hp]; · iexact Hp
  iexact HO

/-! ## The local copies -/

theorem copy_step (Kt : PUnit → sProp 𝕄) (j : Fin 4) {sp sp' : Space} {s : Shape} {e : EltTy} (src : Memref sig .tc sp s e) (dst : Memref sig .tc sp' s e)
    {h₁ : src.view.WordExact} {h₂ : dst.view.WordExact} {h₃ : DmaTarget.Typed (nD := nD) (τ := τ) (p := Proc.tc) sp (.dma (cpSem j)) (.here dst)}
    (X : s.Idx → Elt F e) (hN : dst.view.dmaCredit = cpN j) (hpay : iprop(own c dst X ∗ own c src X) ⊢ cpPay m c j) (k : Body F) :
    iprop(facts m K ∗ (own c src X ∗ ownAny (F := F) c dst) ∗ dutyTok ER (kcell (c, cp j)) 0 0)
      ⊢ iprop((cred (tallyAt (kcell (c, cp j)) () (cpN j)) -∗ WP c k Kt)
          -∗ WP c (.op (.enqueueDma src (.here dst) (.dma (cpSem j)) h₁ h₂ h₃) fun _ => k) Kt) := by
  unfold facts ownAny own owns
  iintro ⟨⟨#HR, #Hlev⟩, ⟨⟨%fs, %hfs, Hs⟩, ⟨%Y, %fd, -, Hd⟩⟩, Ht⟩ Hk
  iapply (Rounds.wp_copy_pointsTo 𝒱₀ ER (Rd m) (c : Thread nD τ) none (src := src) (dst := dst) (sem := csem (cp j)) (κ := K (c, cp j))
    (r := 0) (d := 0) (fs := fs) (fd := fd) (q := fullShare)
    (by rw [show ((c : Thread nD τ), csem (cp j)) = kcell (c, cp j) from rfl, Rd_duties]; exact Finset.mem_singleton_self _)
    () (cpN j) hN (Rd_amount m (c, cp j) 0)
    (by
      refine BIBase.Entails.trans ?_ (hpay.trans (Entails.of_eq (Rd_payload m (c, cp j) 0).symm))
      unfold own owns
      iintro ⟨Hd, Hs⟩
      isplitl [Hd]
      · iexists _; isplitr
        swap; · iexact Hd
        ipureintro; rw [View.read_write_univ]; exact hfs
      iexists fs; isplitr; · ipureintro; exact hfs
      iexact Hs)) $$ [Hs Hd Ht]
  · isplitr; · iapply (inv_at m K (c, cp j)); iexact HR
    isplitl [Hs]; · iexact Hs
    isplitl [Hd]; · iexact Hd
    isplitl [Ht]; · iexact Ht
    iapply (reached_at m K (c, cp j)); iexact HR
  iexact Hk

/-- The copied inputs as the device holds them at launch. -/
def argsIn : sProp 𝕄 :=
  iprop(own c (Memref.whole main_arg1) (wqAt m c) ∗ own c (kvW (Memref.whole main_arg2) c) (wkAt m c)
    ∗ own c (kvW (Memref.whole main_arg3) c) (wvAt m c) ∗ own c (Memref.whole main_arg4) (woAt m c))

theorem copies_phase (Kt : PUnit → sProp 𝕄) (k : Body F) :
    iprop(facts m K ∗ argsIn m c
        ∗ (ownAny (F := F) c (Memref.whole cc0_scratch6) ∗ ownAny (F := F) c (Memref.whole cc0_scratch7)
          ∗ ownAny (F := F) c (Memref.whole cc0_scratch8) ∗ ownAny (F := F) c (Memref.whole cc0_scratch9))
        ∗ (dutyTok ER (kcell (c, cp 0)) 0 0 ∗ dutyTok ER (kcell (c, cp 1)) 0 0 ∗ dutyTok ER (kcell (c, cp 2)) 0 0 ∗ dutyTok ER (kcell (c, cp 3)) 0 0))
      ⊢ iprop(((cred (tallyAt (kcell (c, cp 0)) () (cpN 0)) ∗ cred (tallyAt (kcell (c, cp 1)) () (cpN 1))
            ∗ cred (tallyAt (kcell (c, cp 2)) () (cpN 2)) ∗ cred (tallyAt (kcell (c, cp 3)) () (cpN 3))) -∗ WP c k Kt)
          -∗ WP c (copiesP c k) Kt) := by
  unfold copiesP argsIn
  iintro ⟨#Hf, ⟨A1, A2, A3, A4⟩, ⟨S6, S7, S8, S9⟩, ⟨T0, T1, T2, T3⟩⟩ Hk
  iapply (copy_step m K c Kt 0 (Memref.whole main_arg1) (Memref.whole cc0_scratch6) (wqAt m c) rfl .rfl) $$ [A1 S6 T0]
  · isplitr; · iexact Hf
    isplitr [T0]
    · isplitl [A1]; · iexact A1
      iexact S6
    iexact T0
  iintro C0
  iapply (copy_step m K c Kt 1 (kvW (Memref.whole main_arg2) c) (Memref.whole cc0_scratch8) (wkAt m c) rfl .rfl) $$ [A2 S8 T1]
  · isplitr; · iexact Hf
    isplitr [T1]
    · isplitl [A2]; · iexact A2
      iexact S8
    iexact T1
  iintro C1
  iapply (copy_step m K c Kt 2 (kvW (Memref.whole main_arg3) c) (Memref.whole cc0_scratch9) (wvAt m c) rfl .rfl) $$ [A3 S9 T2]
  · isplitr; · iexact Hf
    isplitr [T2]
    · isplitl [A3]; · iexact A3
      iexact S9
    iexact T2
  iintro C2
  iapply (copy_step m K c Kt 3 (Memref.whole main_arg4) (Memref.whole cc0_scratch7) (woAt m c) rfl .rfl) $$ [A4 S7 T3]
  · isplitr; · iexact Hf
    isplitr [T3]
    · isplitl [A4]; · iexact A4
      iexact S7
    iexact T3
  iintro C3
  iapply Hk
  isplitl [C0]; · iexact C0
  isplitl [C1]; · iexact C1
  isplitl [C2]; · iexact C2
  iexact C3

/-! ## The sends and the last waits -/

theorem send1_phase (Kt : PUnit → sProp 𝕄) (R : CellTallies nD τ sig Unit) (h : Fin 2) (k : Body F) :
    iprop(facts m K ∗ ((each (fun r => own c (sendW h c r) (sendVal m h c r)) ∗ each (fun r => ownAny (F := F) (devOf c r) (slotW h r)))
          ∗ (each (fun r => dutyTok ER (kcell (c, xk 0 h r)) 0 0) ∗ each (fun r => dutyTok ER (kcell (devOf c r, xk 1 h r)) 0 0)))
        ∗ owing (F := F) c (R + owX 1 c h Finset.univ))
      ⊢ iprop(((each (fun r => cred (tallyAt (kcell (c, xk 0 h r)) () N)) ∗ owing (F := F) c R) -∗ WP c k Kt)
          -∗ WP c (seqL (send1P h c) parts k) Kt) := by
  have h := wp_parts c Kt (send1P h c) (facts m K)
    (fun r => iprop((own c (sendW h c r) (sendVal m h c r) ∗ ownAny (F := F) (devOf c r) (slotW h r))
          ∗ (dutyTok ER (kcell (c, xk 0 h r)) 0 0 ∗ dutyTok ER (kcell (devOf c r, xk 1 h r)) 0 0)))
    (fun r => cred (tallyAt (kcell (c, xk 0 h r)) () N))
    (fun S => owing (F := F) c (R + owX 1 c h S)) (fun r S k hr => send1_step m K c Kt R h r S k hr) k
  simp only [each_sep, owX_empty, add_zero] at h
  exact h

theorem send2_phase (Kt : PUnit → sProp 𝕄) (R : CellTallies nD τ sig Unit) (h : Fin 2) (k : Body F) :
    iprop(facts m K ∗ ((each (fun r => owns (c : Thread nD τ) (redW h) (lent r) (redVal m h c)) ∗ each (fun r => ownAny (F := F) (devOf c r) (gatW h c)))
          ∗ (each (fun r => dutyTok ER (kcell (c, xk 2 h r)) 0 0) ∗ each (fun r => dutyTok ER (kcell (devOf c r, xk 3 h r)) 0 0)))
        ∗ owing (F := F) c (R + owX 3 c h Finset.univ))
      ⊢ iprop(((each (fun r => cred (tallyAt (kcell (c, xk 2 h r)) () N)) ∗ owing (F := F) c R) -∗ WP c k Kt)
          -∗ WP c (seqL (send2P h c) parts k) Kt) := by
  have h := wp_parts c Kt (send2P h c) (facts m K)
    (fun r => iprop((owns (c : Thread nD τ) (redW h) (lent r) (redVal m h c) ∗ ownAny (F := F) (devOf c r) (gatW h c))
          ∗ (dutyTok ER (kcell (c, xk 2 h r)) 0 0 ∗ dutyTok ER (kcell (devOf c r, xk 3 h r)) 0 0)))
    (fun r => cred (tallyAt (kcell (c, xk 2 h r)) () N))
    (fun S => owing (F := F) c (R + owX 3 c h S)) (fun r S k hr => send2_step m K c Kt R h r S k hr) k
  simp only [each_sep, owX_empty, add_zero] at h
  exact h

/-- The positions of a table's cells at a round. -/
abbrev posX (a : Fin 4) (h : Fin 2) (R : ℕ) : sProp 𝕄 := each (fun r => atPos ER (kcell (c, xk a h r)) R ∅ 0)
/-- The credits of a table's cells. -/
abbrev credX (a : Fin 4) (h : Fin 2) : sProp 𝕄 := each (fun r => cred (tallyAt (kcell (c, xk a h r)) () N))

theorem wsend1_phase (Kt : PUnit → sProp 𝕄) (h : Fin 2) (k : Body F) :
    iprop(facts m K ∗ (credX (F := F) c 0 h ∗ posX (F := F) c 0 h 0) ∗ owing (F := F) c 0)
      ⊢ iprop(((posX (F := F) c 0 h 1 ∗ each (fun r => own c (sendW h c r) (sendVal m h c r))) -∗ owing (F := F) c 0 -∗ WP c k Kt)
          -∗ WP c (seqL (wsend1P h c) parts k) Kt) := by
  have h := wp_parts c Kt (wsend1P h c) (facts m K) _ _ (fun S => owing (F := F) c 0) (fun r S k hr => wsend1_step m K c Kt h r k) k
  simp only [each_sep] at h
  iintro H Hk
  iapply h $$ H
  iintro ⟨H1, H2⟩
  iapply Hk $$ H1 H2

theorem wait2_phase (Kt : PUnit → sProp 𝕄) (h : Fin 2) (k : Body F) :
    iprop(facts m K ∗ ((credX (F := F) c 2 h ∗ posX (F := F) c 2 h 0) ∗ (credX (F := F) c 3 h ∗ posX (F := F) c 3 h 0)) ∗ owing (F := F) c 0)
      ⊢ iprop((((posX (F := F) c 2 h 1 ∗ each (fun r => owns (c : Thread nD τ) (redW h) (lent r) (redVal m h c)))
            ∗ (posX (F := F) c 3 h 1 ∗ each (fun r => own c (gatW h (devOf c r)) (redVal m h (devOf c r))))) -∗ owing (F := F) c 0 -∗ WP c k Kt)
          -∗ WP c (seqL (wait2P h c) parts k) Kt) := by
  have h := wp_parts c Kt (wait2P h c) (facts m K) _ _ (fun S => owing (F := F) c 0) (fun r S k hr => wait2_step m K c Kt h r k) k
  simp only [each_sep] at h
  iintro H Hk
  iapply h $$ H
  iintro ⟨H1, H2⟩
  iapply Hk $$ H1 H2

/-! ## Summing a half and sending it on -/

theorem half_phase (Kt : PUnit → sProp 𝕄) (R : CellTallies nD τ sig Unit) (h : Fin 2) (hR : Above 2 (R + owX 3 c h Finset.univ)) (k : Body F) :
    iprop(facts m K ∗ own c (Memref.whole cc0_scratch1) (partAt m c) ∗ (credX (F := F) c 1 h ∗ posX (F := F) c 1 h 0) ∗ ownAny (F := F) c (redW h)
        ∗ each (fun r => ownAny (F := F) (devOf c r) (gatW h c))
        ∗ (each (fun r => dutyTok ER (kcell (c, xk 2 h r)) 0 0) ∗ each (fun r => dutyTok ER (kcell (devOf c r, xk 3 h r)) 0 0))
        ∗ owing (F := F) c (R + owX 3 c h Finset.univ))
      ⊢ iprop(((own c (Memref.whole cc0_scratch1) (partAt m c) ∗ (posX (F := F) c 1 h 1 ∗ each (fun r => own c (slotW h r) (landVal m h c r)))
            ∗ owns (c : Thread nD τ) (redW h) kept (redVal m h c) ∗ credX (F := F) c 2 h) -∗ owing (F := F) c R -∗ WP c k Kt)
          -∗ WP c (halfP h c k) Kt) := by
  unfold halfP
  have hacc := fun (k' : FVec F S16x512 .f32 → Body F) (x : FVec F S16x512 .f32) => wp_accL c Kt (recv1P h c) (addStep m h c) (facts m K) _ _
    (fun S => owing (F := F) c (R + owX 3 c h Finset.univ)) (fun r S a k hr => recv1_step m K c Kt h _ hR r a k) parts parts_nodup x k'
  simp only [parts_toFinset, bigSep_sep'] at hacc
  iintro ⟨#Hf, Hp, HA, ⟨%Z, Hr⟩, Hg, ⟨T2, T3⟩, HO⟩ Hk
  iapply (wp_load_all c Kt (Memref.whole cc0_scratch1) _ (partAt m c) (ownVal m h c) (fun f hf => by
    have e : f = partAt m c := hf
    subst e; rfl)) $$ Hp
  iintro Hp
  iapply (hacc _ _) $$ [HA HO]
  · isplitr; · iexact Hf
    isplitl [HA]; · iexact HA
    iexact HO
  iintro ⟨HB, HO⟩
  iapply (wp_load_win c Kt (M := Memref.whole cc0_scratch4) (fun _ => rfl) Z) $$ [Hr]
  · iexact Hr
  iintro Hr
  iapply (wp_store_win c Kt (M := Memref.whole cc0_scratch4) (fun _ => rfl) Z) $$ [Hr]
  · iexact Hr
  iintro Hr
  ihave Hr := (owns_lend c (redW h) (redVal m h c)) $$ [Hr]
  · iexact Hr
  icases Hr with ⟨Hkept, Hlent⟩
  iapply (send2_phase m K c Kt R h k) $$ [Hlent Hg T2 T3 HO]
  · isplitr; · iexact Hf
    isplitr [HO]
    · isplitl [Hlent Hg]
      · isplitl [Hlent]; · iexact Hlent
        iexact Hg
      isplitl [T2]; · iexact T2
      iexact T3
    iexact HO
  iintro ⟨HC, HO⟩
  iapply Hk $$ [Hp HB Hkept HC] HO
  isplitl [Hp]; · iexact Hp
  isplitl [HB]; · iexact HB
  isplitl [Hkept]; · iexact Hkept
  iexact HC

end Proto

end Cert.KernelIdeal.Pf

end
-- ==== Proof.Attn.lean ====
/- The attention phase of the body, the device's own rows, and the final widening. -/
module

public import proofs.«01_k».proof.Proof.Phases

@[expose] public section

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

section Proto

variable (m : (ℓ : Loc nD τ sig) → Buf (Elt F) ℓ) (K : Dev nD × CK → ℕ) (c : Dev nD)

theorem heads_nodup : heads.Nodup := by decide
theorem heads_toFinset : heads.toFinset = Finset.univ := by decide

theorem head_step (Kt : PUnit → sProp 𝕄) (xv : FVec F S256x1024 .bf16) (q : FVec F S256x1024 .f32) (wk wv : Vec F S1024x256 .f32) (j : Fin 8) (k : Body F) :
    ownAny (F := F) c (headW j) ⊢ iprop((own c (headW j) (headPay xv q wk wv j) -∗ WP c k Kt) -∗ WP c (headP xv q wk wv j k) Kt) := by
  unfold headP
  iintro ⟨%Z, H⟩ Hk
  iapply (wp_load_win c Kt (M := Memref.whole cc0_scratch0) (r := headR j) (fun _ => rfl) Z) $$ H
  iintro H
  iapply (wp_store_win c Kt (M := Memref.whole cc0_scratch0) (r := headR j) (fun _ => rfl) Z) $$ H
  iintro H
  iapply Hk $$ H

theorem heads_phase (Kt : PUnit → sProp 𝕄) (k : Body F) :
    ownAny (F := F) c (Memref.whole cc0_scratch0)
      ⊢ iprop((own c (Memref.whole cc0_scratch0) (attnAt m c) -∗ WP c k Kt)
          -∗ WP c (seqL (headP (k0_pay2 (xAt m c)) (k0_pay3 (xAt m c) (wqAt m c)) (wkAt m c) (wvAt m c)) heads k) Kt) := by
  have h := wp_seqL c Kt (headP (k0_pay2 (xAt m c)) (k0_pay3 (xAt m c) (wqAt m c)) (wkAt m c) (wvAt m c)) (iprop(emp) : sProp 𝕄)
    (fun j => ownAny (F := F) c (headW j)) (fun j => own c (headW j) (headAt m c j)) (fun _ => iprop(emp))
    (fun j S k hj => by
      iintro ⟨#He, H, -⟩ Hk
      iapply (head_step c Kt _ _ _ _ j k) $$ H
      iintro H
      iapply Hk
      isplitl; · iexact H
      iexact He) heads heads_nodup k
  rw [heads_toFinset] at h
  iintro H Hk
  ihave H := (attn_cut c) $$ H
  ihave #He := (show (⊢ (iprop(emp) : sProp 𝕄)) from .rfl)
  iapply h $$ [H]
  · isplitr; · iexact He
    isplitl; · iexact H
    iexact He
  iintro ⟨H, -⟩
  iapply Hk
  iapply (attn_join m c) $$ H

/-- Waiting for local copy `j`. -/
theorem cp_wait (Kt : PUnit → sProp 𝕄) (j : Fin 4) {sp sp' : Space} {s s' : Shape} {e e' : EltTy} (src : Memref sig .tc sp' s' e') (dst : Memref sig .tc sp s e)
    {h₁ : src.view.WordExact} {h₂ : dst.view.WordExact} (hN : dst.view.dmaCredit = cpN j) (O : CellTallies nD τ sig Unit) (hO : Above 0 O) (k : Body F) :
    iprop(facts m K ∗ (cred (tallyAt (kcell (c, cp j)) () (cpN j)) ∗ atPos ER (kcell (c, cp j)) 0 ∅ 0) ∗ owing (F := F) c O)
      ⊢ iprop((((atPos ER (kcell (c, cp j)) 1 ∅ 0 ∗ cpPay m c j) ∗ owing (F := F) c O) -∗ WP c k Kt)
          -∗ WP c (.op (.waitDma2 (cpSem j) src dst h₁ h₂) fun _ => k) Kt) := by
  have h := wait_own m K c Kt (.inl j) (fun _ => k) (wpE_waitDma2_eq 𝒱₀ (c : Thread nD τ) none Set.univ (src := src) (dst := dst) (hsrc := h₁) (hdst := h₂) (sem := cpSem j))
    hN 0 (Nat.le_refl 0) O hO
  rw [hN] at h
  exact h

/-- The credits and positions of the local copies. -/
abbrev cpReady (j : Fin 4) : sProp 𝕄 := iprop(cred (tallyAt (kcell (c, cp j)) () (cpN j)) ∗ atPos ER (kcell (c, cp j)) 0 ∅ 0)

theorem attn_phase (Kt : PUnit → sProp 𝕄) (O : CellTallies nD τ sig Unit) (hO : Above 0 O) (k : Body F) :
    iprop(facts m K ∗ own c (Memref.whole cc0_stg0_0) (xAt m c)
        ∗ (cpReady (F := F) c 0 ∗ cpReady (F := F) c 1 ∗ cpReady (F := F) c 2 ∗ cpReady (F := F) c 3)
        ∗ (ownAny (F := F) c (Memref.whole cc0_scratch0) ∗ ownAny (F := F) c (Memref.whole cc0_scratch1) ∗ ownAny (F := F) c (Memref.whole cc0_scratch2))
        ∗ owing (F := F) c O)
      ⊢ iprop(((own c (Memref.whole cc0_stg0_0) (xAt m c)
            ∗ ((atPos ER (kcell (c, cp 0)) 1 ∅ 0 ∗ cpPay m c 0) ∗ (atPos ER (kcell (c, cp 1)) 1 ∅ 0 ∗ cpPay m c 1)
              ∗ (atPos ER (kcell (c, cp 2)) 1 ∅ 0 ∗ cpPay m c 2) ∗ (atPos ER (kcell (c, cp 3)) 1 ∅ 0 ∗ cpPay m c 3))
            ∗ (own c (Memref.whole cc0_scratch0) (attnAt m c) ∗ own c (Memref.whole cc0_scratch1) (partAt m c)
              ∗ own c (Memref.whole cc0_scratch2) (sentAt m c))) -∗ owing (F := F) c O -∗ WP c k Kt)
          -∗ WP c (attnP c k) Kt) := by
  unfold attnP
  iintro ⟨#Hf, Hx, ⟨C0, C1, C2, C3⟩, ⟨S0, S1, S2⟩, HO⟩ Hk
  iapply (wp_load_all c Kt (Memref.whole cc0_stg0_0) _ (xAt m c) (xAt m c) fun f hf => by
    exact (Memref.read_access_unit_zero (Elt F) cc0_stg0_0 z3 _ f).trans hf) $$ Hx
  iintro Hx
  iapply (cp_wait m K c Kt 0 _ _ rfl O hO) $$ [C0 HO]
  · isplitr; · iexact Hf
    isplitl [C0]; · iexact C0
    iexact HO
  iintro ⟨⟨P0, W0⟩, HO⟩
  icases (show cpPay m c 0 ⊢ iprop(own c (Memref.whole cc0_scratch6) (wqAt m c) ∗ own c (Memref.whole main_arg1) (wqAt m c)) from .rfl) $$ W0 with ⟨W0, A0⟩
  iapply (wp_load_all c Kt (Memref.whole cc0_scratch6) _ (wqAt m c) (wqAt m c) fun f hf => by
    exact (Memref.read_access_unit_zero (Elt F) cc0_scratch6 z2 _ f).trans hf) $$ W0
  iintro W0
  iapply (cp_wait m K c Kt 1 _ _ rfl O hO) $$ [C1 HO]
  · isplitr; · iexact Hf
    isplitl [C1]; · iexact C1
    iexact HO
  iintro ⟨⟨P1, W1⟩, HO⟩
  iapply (cp_wait m K c Kt 2 _ _ rfl O hO) $$ [C2 HO]
  · isplitr; · iexact Hf
    isplitl [C2]; · iexact C2
    iexact HO
  iintro ⟨⟨P2, W2⟩, HO⟩
  icases (show cpPay m c 1 ⊢ iprop(own c (Memref.whole cc0_scratch8) (wkAt m c) ∗ own c (kvW (Memref.whole main_arg2) c) (wkAt m c)) from .rfl) $$ W1 with ⟨W1, A1⟩
  icases (show cpPay m c 2 ⊢ iprop(own c (Memref.whole cc0_scratch9) (wvAt m c) ∗ own c (kvW (Memref.whole main_arg3) c) (wvAt m c)) from .rfl) $$ W2 with ⟨W2, A2⟩
  iapply (wp_load_all c Kt (Memref.whole cc0_scratch8) _ (wkAt m c) (wkAt m c) fun f hf => by
    exact (Memref.read_access_unit_zero (Elt F) cc0_scratch8 z2 _ f).trans hf) $$ W1
  iintro W1
  iapply (wp_load_all c Kt (Memref.whole cc0_scratch9) _ (wvAt m c) (wvAt m c) fun f hf => by
    exact (Memref.read_access_unit_zero (Elt F) cc0_scratch9 z2 _ f).trans hf) $$ W2
  iintro W2
  iapply (heads_phase m c Kt _) $$ S0
  iintro S0
  iapply (cp_wait m K c Kt 3 _ _ rfl O hO) $$ [C3 HO]
  · isplitr; · iexact Hf
    isplitl [C3]; · iexact C3
    iexact HO
  iintro ⟨⟨P3, W3⟩, HO⟩
  icases (show cpPay m c 3 ⊢ iprop(own c (Memref.whole cc0_scratch7) (woAt m c) ∗ own c (Memref.whole main_arg4) (woAt m c)) from .rfl) $$ W3 with ⟨W3, A3⟩
  iapply (wp_load_all c Kt (Memref.whole cc0_scratch0) _ (attnAt m c) (attnAt m c) fun f hf => by
    exact (Memref.read_access_unit_zero (Elt F) cc0_scratch0 z2 _ f).trans hf) $$ S0
  iintro S0
  iapply (wp_load_all c Kt (Memref.whole cc0_scratch7) _ (woAt m c) (woAt m c) fun f hf => by
    exact (Memref.read_access_unit_zero (Elt F) cc0_scratch7 z2 _ f).trans hf) $$ W3
  iintro W3
  icases S1 with ⟨%Z1, S1⟩
  iapply (wp_load_all c Kt (Memref.whole cc0_scratch1) _ Z1 Z1 fun f hf => by
    exact (Memref.read_access_unit_zero (Elt F) cc0_scratch1 z2 _ f).trans hf) $$ S1
  iintro S1
  iapply (wp_store_all c Kt (Memref.whole cc0_scratch1) _ (partAt m c) fun f => by
    refine Eq.trans ?_ (Memref.write_access_unit_zero_univ (Elt F) cc0_scratch1 z2 (by decide) f (k0_pay16 (attnAt m c) (woAt m c))); rfl) $$ [S1]
  · iexists Z1; iexact S1
  iintro S1
  iapply (wp_load_all c Kt (Memref.whole cc0_scratch1) _ (partAt m c) (partAt m c) fun f hf => by
    exact (Memref.read_access_unit_zero (Elt F) cc0_scratch1 z2 _ f).trans hf) $$ S1
  iintro S1
  icases S2 with ⟨%Z2, S2⟩
  iapply (wp_load_all c Kt (Memref.whole cc0_scratch2) _ Z2 Z2 fun f hf => by
    exact (Memref.read_access_unit_zero (Elt F) cc0_scratch2 z2 _ f).trans hf) $$ S2
  iintro S2
  iapply (wp_store_all c Kt (Memref.whole cc0_scratch2) _ (sentAt m c) fun f => by
    refine Eq.trans ?_ (Memref.write_access_unit_zero_univ (Elt F) cc0_scratch2 z2 (by decide) f (k0_pay17 (partAt m c))); rfl) $$ [S2]
  · iexists Z2; iexact S2
  iintro S2
  iapply Hk $$ [- HO] HO
  isplitl [Hx]; · iexact Hx
  isplitl [P0 W0 A0 P1 W1 A1 P2 W2 A2 P3 W3 A3]
  · isplitl [P0 W0 A0]
    · isplitl [P0]; · iexact P0
      iapply (show iprop(own c (Memref.whole cc0_scratch6) (wqAt m c) ∗ own c (Memref.whole main_arg1) (wqAt m c)) ⊢ cpPay m c 0 from .rfl)
      isplitl [W0]; · iexact W0
      iexact A0
    isplitl [P1 W1 A1]
    · isplitl [P1]; · iexact P1
      iapply (show iprop(own c (Memref.whole cc0_scratch8) (wkAt m c) ∗ own c (kvW (Memref.whole main_arg2) c) (wkAt m c)) ⊢ cpPay m c 1 from .rfl)
      isplitl [W1]; · iexact W1
      iexact A1
    isplitl [P2 W2 A2]
    · isplitl [P2]; · iexact P2
      iapply (show iprop(own c (Memref.whole cc0_scratch9) (wvAt m c) ∗ own c (kvW (Memref.whole main_arg3) c) (wvAt m c)) ⊢ cpPay m c 2 from .rfl)
      isplitl [W2]; · iexact W2
      iexact A2
    isplitl [P3]; · iexact P3
    iapply (show iprop(own c (Memref.whole cc0_scratch7) (woAt m c) ∗ own c (Memref.whole main_arg4) (woAt m c)) ⊢ cpPay m c 3 from .rfl)
    isplitl [W3]; · iexact W3
    iexact A3
  isplitl [S0]; · iexact S0
  isplitl [S1]; · iexact S1
  iexact S2

/-! ## The device's own rows and the result -/

theorem own_phase (Kt : PUnit → sProp 𝕄) (k : Body F) :
    iprop((owns (c : Thread nD τ) (redW 0) kept (redVal m 0 c) ∗ owns (c : Thread nD τ) (redW 1) kept (redVal m 1 c))
        ∗ (ownAny (F := F) c (gatW 0 c) ∗ ownAny (F := F) c (gatW 1 c)))
      ⊢ iprop((((owns (c : Thread nD τ) (redW 0) kept (redVal m 0 c) ∗ owns (c : Thread nD τ) (redW 1) kept (redVal m 1 c))
            ∗ (own c (gatW 0 c) (redVal m 0 c) ∗ own c (gatW 1 c) (redVal m 1 c))) -∗ WP c k Kt)
          -∗ WP c (ownP c k) Kt) := by
  unfold ownP
  iintro ⟨Hr, Hg⟩ Hk
  ihave Hr := (red_join m c kept) $$ Hr
  iapply (wp_load_all c Kt (Memref.whole cc0_scratch4) _ (redAt m c) (redAt m c) fun f hf => by
    exact (Memref.read_access_unit_zero (Elt F) cc0_scratch4 z2 _ f).trans hf) $$ Hr
  iintro Hr
  icases (mine_join c) $$ Hg with ⟨%Z, Hg⟩
  iapply (wp_load_win c Kt (M := Memref.whole cc0_scratch5) (fun _ => rfl) Z) $$ [Hg]
  · iexact Hg
  iintro Hg
  iapply (wp_store_win c Kt (M := Memref.whole cc0_scratch5) (fun _ => rfl) Z) $$ [Hg]
  · iexact Hg
  iintro Hg
  iapply Hk
  isplitl [Hr]
  · iapply (red_split m c kept) $$ Hr
  iapply (mine_split m c)
  iexact Hg

theorem out_phase (Kt : PUnit → sProp 𝕄) :
    iprop(own c (Memref.whole cc0_scratch5) (gatAt m) ∗ ownAny (F := F) c (Memref.whole cc0_stg1_0))
      ⊢ iprop(((own c (Memref.whole cc0_scratch5) (gatAt m) ∗ own c (Memref.whole cc0_stg1_0) (outAt m)) -∗ Kt ⟨⟩)
          -∗ WP c (outP (F := F)) Kt) := by
  unfold outP
  iintro ⟨Hg, ⟨%Z, Ho⟩⟩ Hk
  iapply (wp_load_all c Kt (Memref.whole cc0_scratch5) _ (gatAt m) (gatAt m) fun f hf => by
    exact (Memref.read_access_unit_zero (Elt F) cc0_scratch5 z2 _ f).trans hf) $$ Hg
  iintro Hg
  iapply (wp_load_all c Kt (Memref.whole cc0_stg1_0) _ Z Z fun f hf => by
    exact (Memref.read_access_unit_zero (Elt F) cc0_stg1_0 z3 _ f).trans hf) $$ Ho
  iintro Ho
  iapply (wp_store_all c Kt (Memref.whole cc0_stg1_0) _ (outAt m) fun f => by
    refine Eq.trans ?_ (Memref.write_access_unit_zero_univ (Elt F) cc0_stg1_0 z3 (by decide) f (k0_pay1 (gatAt m))); rfl) $$ [Ho]
  · iexists Z; iexact Ho
  iintro Ho
  unfold WP
  rw [wp_ret]
  imodintro
  iapply Hk
  isplitl [Hg]; · iexact Hg
  iexact Ho

end Proto

end Cert.KernelIdeal.Pf

end
-- ==== Proof.Body.lean ====
/- The whole body of one device: from what it holds at launch to what it leaves. -/
module

public import proofs.«01_k».proof.Proof.Attn

@[expose] public section

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- Four assertions. -/
abbrev quad (Φ : Fin 4 → sProp 𝕄) : sProp 𝕄 := iprop(Φ 0 ∗ Φ 1 ∗ Φ 2 ∗ Φ 3)
/-- An assertion for each table and half. -/
abbrev tabs (Φ : Fin 4 → Fin 2 → sProp 𝕄) : sProp 𝕄 := quad fun a => iprop(Φ a 0 ∗ Φ a 1)

section Res

variable (c : Dev nD)

/-- The device whose cell of table `a` device `c` pays for partner `r`: its own for the leaving of a send, the partner's for its landing. -/
abbrev payee (a : Fin 4) (c : Dev nD) (r : Fin 15) : Dev nD :=
  match a with | 0 => c | 1 => devOf c r | 2 => c | 3 => devOf c r

def pos (R : ℕ) : sProp 𝕄 :=
  iprop(atPos ER (kcell (c, bar)) R ∅ 0 ∗ quad (fun j => atPos ER (kcell (c, cp j)) R ∅ 0) ∗ tabs (fun a h => posX (F := F) c a h R))
abbrev tokX (a : Fin 4) (h : Fin 2) : sProp 𝕄 := each (fun r => dutyTok ER (kcell (payee a c r, xk a h r)) 0 0)
def tok : sProp 𝕄 :=
  iprop(each (fun r => dutyTok ER (kcell (devOf c r, bar)) 0 r) ∗ quad (fun j => dutyTok ER (kcell (c, cp j)) 0 0) ∗ tabs (fun a h => tokX (F := F) c a h))
def creds : sProp 𝕄 :=
  iprop(cred (tallyAt (kcell (c, bar)) () 15) ∗ (credX (F := F) c 1 0 ∗ credX (F := F) c 1 1) ∗ (credX (F := F) c 3 0 ∗ credX (F := F) c 3 1))
/-- The scratch buffers, of any contents. -/
def scr : sProp 𝕄 :=
  iprop(ownAny (F := F) c (Memref.whole cc0_scratch0) ∗ ownAny (F := F) c (Memref.whole cc0_scratch1) ∗ ownAny (F := F) c (Memref.whole cc0_scratch2)
    ∗ ownAny (F := F) c (Memref.whole cc0_scratch3) ∗ ownAny (F := F) c (Memref.whole cc0_scratch4) ∗ ownAny (F := F) c (Memref.whole cc0_scratch5)
    ∗ ownAny (F := F) c (Memref.whole cc0_scratch6) ∗ ownAny (F := F) c (Memref.whole cc0_scratch7) ∗ ownAny (F := F) c (Memref.whole cc0_scratch8)
    ∗ ownAny (F := F) c (Memref.whole cc0_scratch9))

end Res

/-- The debts left after the first `n` sending phases, last paid first. -/
theorem debts (c : Dev nD) : O₀ c
    = (0 + owX 3 c 1 Finset.univ + owX 3 c 0 Finset.univ + owX 1 c 1 Finset.univ + owX 1 c 0 Finset.univ) + owB c Finset.univ := by
  unfold O₀ owR; ac_rfl

section Proto

variable (m : (ℓ : Loc nD τ sig) → Buf (Elt F) ℓ) (K : Dev nD × CK → ℕ) (c : Dev nD)

theorem args_join :
    iprop((cpPay m c 0 ∗ cpPay m c 1) ∗ (cpPay m c 2 ∗ cpPay m c 3))
      ⊢ iprop(argsIn m c ∗ (ownAny (F := F) c (Memref.whole cc0_scratch6) ∗ ownAny (F := F) c (Memref.whole cc0_scratch7)
        ∗ ownAny (F := F) c (Memref.whole cc0_scratch8) ∗ ownAny (F := F) c (Memref.whole cc0_scratch9))) := by
  unfold argsIn cpPay
  iintro ⟨⟨⟨W0, A0⟩, ⟨W1, A1⟩⟩, ⟨⟨W2, A2⟩, ⟨W3, A3⟩⟩⟩
  isplitl [A0 A1 A2 A3]
  · isplitl [A0]; · iexact A0
    isplitl [A1]; · iexact A1
    isplitl [A2]; · iexact A2
    iexact A3
  isplitl [W0]; · iexists _; iexact W0
  isplitl [W3]; · iexists _; iexact W3
  isplitl [W1]; · iexists _; iexact W1
  iexists _; iexact W2

theorem red_back :
    iprop((owns (c : Thread nD τ) (redW 0) kept (redVal m 0 c) ∗ owns (c : Thread nD τ) (redW 1) kept (redVal m 1 c))
        ∗ (each (fun r => owns (c : Thread nD τ) (redW 0) (lent r) (redVal m 0 c)) ∗ each (fun r => owns (c : Thread nD τ) (redW 1) (lent r) (redVal m 1 c))))
      ⊢ ownAny (F := F) c (Memref.whole cc0_scratch4) := by
  iintro ⟨⟨K0, K1⟩, ⟨L0, L1⟩⟩
  ihave H0 := (owns_unlend c (redW 0) (redVal m 0 c)) $$ [K0 L0]
  · isplitl [K0]; · iexact K0
    iexact L0
  ihave H1 := (owns_unlend c (redW 1) (redVal m 1 c)) $$ [K1 L1]
  · isplitl [K1]; · iexact K1
    iexact L1
  iexists (redAt m c)
  iapply (red_join m c fullShare)
  isplitl [H0]; · iexact H0
  iexact H1

set_option maxHeartbeats 1000000 in
theorem body_main (Kt : PUnit → sProp 𝕄) :
    iprop(facts m K ∗ argsIn m c ∗ own c (Memref.whole cc0_stg0_0) (xAt m c) ∗ ownAny (F := F) c (Memref.whole cc0_stg1_0)
        ∗ scr (F := F) c ∗ tok (F := F) c ∗ pos (F := F) c 0 ∗ creds (F := F) c ∗ owing (F := F) c (O₀ c))
      ⊢ iprop(((argsIn m c ∗ own c (Memref.whole cc0_stg0_0) (xAt m c) ∗ own c (Memref.whole cc0_stg1_0) (outAt m)
            ∗ scr (F := F) c ∗ pos (F := F) c 1 ∗ owing (F := F) c 0) -∗ Kt ⟨⟩)
          -∗ WP c (mainP (F := F) c) Kt) := by
  rw [debts]
  unfold mainP scr tok pos creds quad
  iintro ⟨#Hf, HA, Hx, Hy, ⟨S0, S1, S2, S3, S4, S5, S6, S7, S8, S9⟩,
    ⟨TB, ⟨TC0, TC1, TC2, TC3⟩, ⟨⟨T00, T01⟩, ⟨T10, T11⟩, ⟨T20, T21⟩, ⟨T30, T31⟩⟩⟩,
    ⟨PB, ⟨PC0, PC1, PC2, PC3⟩, ⟨⟨P00, P01⟩, ⟨P10, P11⟩, ⟨P20, P21⟩, ⟨P30, P31⟩⟩⟩,
    ⟨CB, ⟨C10, C11⟩, ⟨C30, C31⟩⟩, HO⟩ Hk
  -- the local copies
  iapply (copies_phase m K c Kt _) $$ [HA S6 S7 S8 S9 TC0 TC1 TC2 TC3]
  · isplitr; · iexact Hf
    isplitl [HA]; · iexact HA
    isplitl [S6 S7 S8 S9]
    · isplitl [S6]; · iexact S6
      isplitl [S7]; · iexact S7
      isplitl [S8]; · iexact S8
      iexact S9
    isplitl [TC0]; · iexact TC0
    isplitl [TC1]; · iexact TC1
    isplitl [TC2]; · iexact TC2
    iexact TC3
  iintro ⟨CC0, CC1, CC2, CC3⟩
  -- the barrier
  icases (slot_cut c) $$ S3 with ⟨S3, R3⟩
  icases (gat_cut c) $$ S5 with ⟨⟨G0, G1⟩, S5⟩
  iapply (sig_phase m K c Kt _ _) $$ [TB S3 G0 G1 HO]
  · isplitr; · iexact Hf
    isplitr [HO]
    · isplitl [TB]; · iexact TB
      isplitl [S3]; · iexact S3
      isplitl [G0]; · iexact G0
      iexact G1
    iexact HO
  iintro HO
  iapply (bar_wait m K c Kt _ (above_add (above_add (above_add (above_add (above_zero 1) (above_owX3 (by decide) c 1 _)) (above_owX3 (by decide) c 0 _))
    (above_owX1 (by decide) c 1 _)) (above_owX1 (by decide) c 0 _)) _) $$ [CB PB HO]
  · isplitr; · iexact Hf
    isplitl [CB]; · iexact CB
    isplitl [PB]; · iexact PB
    iexact HO
  iintro ⟨PB, ⟨⟨D0, D1⟩, ⟨E0, E1⟩⟩, HO⟩
  -- the attention
  iapply (attn_phase m K c Kt _ (above_add (above_add (above_add (above_add (above_zero 0) (above_owX3 (by decide) c 1 _)) (above_owX3 (by decide) c 0 _))
    (above_owX1 (by decide) c 1 _)) (above_owX1 (by decide) c 0 _)) _) $$ [Hx CC0 CC1 CC2 CC3 PC0 PC1 PC2 PC3 S0 S1 S2 HO]
  · isplitr; · iexact Hf
    isplitl [Hx]; · iexact Hx
    isplitl [CC0 CC1 CC2 CC3 PC0 PC1 PC2 PC3]
    · isplitl [CC0 PC0]
      · isplitl [CC0]; · iexact CC0
        iexact PC0
      isplitl [CC1 PC1]
      · isplitl [CC1]; · iexact CC1
        iexact PC1
      isplitl [CC2 PC2]
      · isplitl [CC2]; · iexact CC2
        iexact PC2
      isplitl [CC3]; · iexact CC3
      iexact PC3
    isplitr [HO]
    · isplitl [S0]; · iexact S0
      isplitl [S1]; · iexact S1
      iexact S2
    iexact HO
  iintro ⟨Hx, ⟨⟨PC0, A0⟩, ⟨PC1, A1⟩, ⟨PC2, A2⟩, ⟨PC3, A3⟩⟩, ⟨S0, S1, S2⟩⟩ HO
  -- the first exchange
  icases (send_cut m c) $$ S2 with ⟨⟨S20, S21⟩, R2⟩
  iapply (send1_phase m K c Kt _ 0 _) $$ [S20 D0 T00 T10 HO]
  · isplitr; · iexact Hf
    isplitr [HO]
    · isplitl [S20 D0]
      · isplitl [S20]; · iexact S20
        iexact D0
      isplitl [T00]; · iexact T00
      iexact T10
    iexact HO
  iintro ⟨C00, HO⟩
  iapply (send1_phase m K c Kt _ 1 _) $$ [S21 D1 T01 T11 HO]
  · isplitr; · iexact Hf
    isplitr [HO]
    · isplitl [S21 D1]
      · isplitl [S21]; · iexact S21
        iexact D1
      isplitl [T01]; · iexact T01
      iexact T11
    iexact HO
  iintro ⟨C01, HO⟩
  -- the sums
  icases (red_cut c) $$ S4 with ⟨S40, S41⟩
  iapply (half_phase m K c Kt _ 0 (above_add (above_add (above_zero 2) (above_owX3 (by decide) c 1 _)) (above_owX3 (by decide) c 0 _)) _)
    $$ [S1 C10 P10 S40 E0 T20 T30 HO]
  · isplitr; · iexact Hf
    isplitl [S1]; · iexact S1
    isplitl [C10 P10]
    · isplitl [C10]; · iexact C10
      iexact P10
    isplitl [S40]; · iexact S40
    isplitl [E0]; · iexact E0
    isplitr [HO]
    · isplitl [T20]; · iexact T20
      iexact T30
    iexact HO
  iintro ⟨S1, ⟨P10, S30⟩, K0, C20⟩ HO
  iapply (half_phase m K c Kt _ 1 (above_add (above_zero 2) (above_owX3 (by decide) c 1 _)) _)
    $$ [S1 C11 P11 S41 E1 T21 T31 HO]
  · isplitr; · iexact Hf
    isplitl [S1]; · iexact S1
    isplitl [C11 P11]
    · isplitl [C11]; · iexact C11
      iexact P11
    isplitl [S41]; · iexact S41
    isplitl [E1]; · iexact E1
    isplitr [HO]
    · isplitl [T21]; · iexact T21
      iexact T31
    iexact HO
  iintro ⟨S1, ⟨P11, S31⟩, K1, C21⟩ HO
  -- the device's own rows
  iapply (own_phase m c Kt _) $$ [K0 K1 S5]
  · isplitl [K0 K1]
    · isplitl [K0]; · iexact K0
      iexact K1
    iexact S5
  iintro ⟨HK, ⟨M0, M1⟩⟩
  -- the last waits
  iapply (wsend1_phase m K c Kt 0 _) $$ [C00 P00 HO]
  · isplitr; · iexact Hf
    isplitr [HO]
    · isplitl [C00]; · iexact C00
      iexact P00
    iexact HO
  iintro ⟨P00, S20⟩ HO
  iapply (wsend1_phase m K c Kt 1 _) $$ [C01 P01 HO]
  · isplitr; · iexact Hf
    isplitr [HO]
    · isplitl [C01]; · iexact C01
      iexact P01
    iexact HO
  iintro ⟨P01, S21⟩ HO
  iapply (wait2_phase m K c Kt 0 _) $$ [C20 P20 C30 P30 HO]
  · isplitr; · iexact Hf
    isplitr [HO]
    · isplitl [C20 P20]
      · isplitl [C20]; · iexact C20
        iexact P20
      isplitl [C30]; · iexact C30
      iexact P30
    iexact HO
  iintro ⟨⟨P20, L0⟩, ⟨P30, G0⟩⟩ HO
  iapply (wait2_phase m K c Kt 1 _) $$ [C21 P21 C31 P31 HO]
  · isplitr; · iexact Hf
    isplitr [HO]
    · isplitl [C21 P21]
      · isplitl [C21]; · iexact C21
        iexact P21
      isplitl [C31]; · iexact C31
      iexact P31
    iexact HO
  iintro ⟨⟨P21, L1⟩, ⟨P31, G1⟩⟩ HO
  -- the result
  ihave S5 := (gat_join m c) $$ [G0 G1 M0 M1]
  · isplitl [G0 G1]
    · isplitl [G0]; · iexact G0
      iexact G1
    isplitl [M0]; · iexact M0
    iexact M1
  iapply (out_phase m c Kt) $$ [S5 Hy]
  · isplitl [S5]; · iexact S5
    iexact Hy
  iintro ⟨S5, Hy⟩
  icases (args_join m c) $$ [A0 A1 A2 A3] with ⟨HA, ⟨S6, S7, S8, S9⟩⟩
  · isplitl [A0 A1]
    · isplitl [A0]; · iexact A0
      iexact A1
    isplitl [A2]; · iexact A2
    iexact A3
  ihave S4 := (red_back m c) $$ [HK L0 L1]
  · isplitl [HK]; · iexact HK
    isplitl [L0]; · iexact L0
    iexact L1
  ihave S3 := (slot_join m c) $$ [S30 S31 R3]
  · isplitl [S30 S31]
    · isplitl [S30]; · iexact S30
      iexact S31
    iexact R3
  ihave S2 := (send_join m c) $$ [S20 S21 R2]
  · isplitl [S20 S21]
    · isplitl [S20]; · iexact S20
      iexact S21
    iexact R2
  iapply Hk
  isplitl [HA]; · iexact HA
  isplitl [Hx]; · iexact Hx
  isplitl [Hy]; · iexact Hy
  isplitl [S0 S1 S2 S3 S4 S5 S6 S7 S8 S9]
  · isplitl [S0]; · iexists _; iexact S0
    isplitl [S1]; · iexists _; iexact S1
    isplitl [S2]; · iexact S2
    isplitl [S3]; · iexact S3
    isplitl [S4]; · iexact S4
    isplitl [S5]; · iexists _; iexact S5
    isplitl [S6]; · iexact S6
    isplitl [S7]; · iexact S7
    isplitl [S8]; · iexact S8
    iexact S9
  isplitr [HO]
  · isplitl [PB]; · iexact PB
    isplitl [PC0 PC1 PC2 PC3]
    · isplitl [PC0]; · iexact PC0
      isplitl [PC1]; · iexact PC1
      isplitl [PC2]; · iexact PC2
      iexact PC3
    isplitl [P00 P01]
    · isplitl [P00]; · iexact P00
      iexact P01
    isplitl [P10 P11]
    · isplitl [P10]; · iexact P10
      iexact P11
    isplitl [P20 P21]
    · isplitl [P20]; · iexact P20
      iexact P21
    isplitl [P30]; · iexact P30
    iexact P31
  iexact HO

end Proto

end Cert.KernelIdeal.Pf

end
-- ==== Proof.Ghost.lean ====
/- The ghost state at launch: cells, tokens and credits, dealt to the devices. -/
module

public import proofs.«01_k».proof.Proof.Body
public import Idealize.ShloMosaic.Lib.Pipeline.Launch
public import Idealize.ShloMosaic.Lib.Pipeline.Kit
public import Idealize.ShloMosaic.Lib.Tactic

@[expose] public section

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The cells listed -/

theorem big_quad (Φ : Fin 4 → sProp 𝕄) : bigSep Finset.univ Φ = quad Φ := bigSep_univ_eq_bigSepL [0, 1, 2, 3] (by decide) (by decide) Φ

theorem own_cells (Φ : OK → sProp 𝕄) : bigSep Finset.univ Φ
    = iprop(quad (fun j => Φ (.inl j)) ∗ tabs (fun a h => each (fun r => Φ (.inr (a, h, r))))) := by
  rw [bigSep_univ_sum, big_quad, bigSep_univ_prod]
  have h : (bigSep Finset.univ fun a : Fin 4 => bigSep Finset.univ fun b : Fin 2 × Fin 15 => Φ (.inr (a, b)))
      = tabs (fun a h => each (fun r => Φ (.inr (a, h, r)))) := by
    rw [big_quad]
    simp only [bigSep_univ_prod, bigSep_two]
  rw [h]; rfl

theorem all_cells (Φ : CK → sProp 𝕄) : bigSep Finset.univ Φ = iprop(Φ bar ∗ bigSep Finset.univ fun o : OK => Φ (.inr o)) := by
  rw [bigSep_univ_sum, show (Finset.univ : Finset Unit) = {()} from rfl, bigSep_singleton]; rfl

theorem pos_eq (c : Dev nD) (R : ℕ) : (bigSep Finset.univ fun k : CK => (atPos ER (kcell (c, k)) R ∅ 0 : sProp 𝕄)) = pos (F := F) c R := by
  rw [all_cells, own_cells]; rfl

/-! ## The tokens -/

abbrev TK : Type := Fin 15 ⊕ OK
/-- The tokens minted for a device's own cells: the barrier's fifteen and one for each other cell. -/
def tokOf (x : Dev nD × TK) : GSem nD τ sig × ℕ × Fin 15 :=
  match x.2 with
  | .inl d => (kcell (x.1, bar), 0, d)
  | .inr o => (kcell (x.1, .inr o), 0, 0)
theorem tokOf_inj : Function.Injective tokOf := by
  rintro ⟨c, a | a⟩ ⟨c', b | b⟩ h
  · have h1 := kcell_inj (congrArg Prod.fst h)
    have h2 : a = b := congrArg (fun x : GSem nD τ sig × ℕ × Fin 15 => x.2.2) h
    rw [show c = c' from congrArg Prod.fst h1, h2]
  · have h1 := kcell_inj (congrArg Prod.fst h)
    exact absurd (congrArg Prod.snd h1) (fun h => by cases h)
  · have h1 := kcell_inj (congrArg Prod.fst h)
    exact absurd (congrArg Prod.snd h1) (fun h => by cases h)
  · have h1 := kcell_inj (congrArg Prod.fst h)
    have h2 : a = b := Sum.inr.inj (congrArg Prod.snd h1)
    rw [show c = c' from congrArg Prod.fst h1, h2]

def allCells : Finset (GSem nD τ sig) := Finset.univ.map ⟨kcell, kcell_inj⟩
def allToks : Finset (GSem nD τ sig × ℕ × Fin 15) := Finset.univ.map ⟨tokOf, tokOf_inj⟩

/-- The tokens of device `c`'s own cells. -/
def toks (c : Dev nD) : sProp 𝕄 :=
  iprop(each (fun d => dutyTok ER (kcell (c, bar)) 0 d) ∗ bigSep Finset.univ fun o : OK => dutyTok ER (kcell (c, .inr o)) 0 0)

/-- Each device and partner name each other. -/
def swapAll : Dev nD × Fin 15 ≃ Dev nD × Fin 15 :=
  ⟨fun x => (devOf x.1 x.2, x.2), fun x => (devOf x.1 x.2, x.2), fun x => by simp only [devOf_devOf], fun x => by simp only [devOf_devOf]⟩

theorem each_swap (Φ : Dev nD → Fin 15 → sProp 𝕄) :
    (bigSep Finset.univ fun c : Dev nD => each (fun r => Φ c r)) = bigSep Finset.univ fun c : Dev nD => each (fun r => Φ (devOf c r) r) := by
  have h := bigSep_univ_equiv swapAll (fun x : Dev nD × Fin 15 => Φ x.1 x.2)
  rw [bigSep_univ_prod, bigSep_univ_prod] at h
  exact h

theorem toks_deal : (bigSep Finset.univ fun c : Dev nD => (toks c : sProp 𝕄)) = bigSep Finset.univ fun c : Dev nD => tok c := by
  unfold toks tok quad
  simp only [own_cells, bigSep_sep']
  rw [each_swap (fun c r => dutyTok ER (kcell (c, bar)) 0 r), each_swap (fun c r => dutyTok ER (kcell (c, .inr (.inr (1, 0, r)))) 0 0),
    each_swap (fun c r => dutyTok ER (kcell (c, .inr (.inr (1, 1, r)))) 0 0), each_swap (fun c r => dutyTok ER (kcell (c, .inr (.inr (3, 0, r)))) 0 0),
    each_swap (fun c r => dutyTok ER (kcell (c, .inr (.inr (3, 1, r)))) 0 0)]

/-! ## The credits -/

/-- What all devices owe a cell of device `c`, from one family of debts. -/
theorem owed_family (f : Fin 15 → CK) (n : ℕ) (c : Dev nD) (k : CK) :
    (∑ d : Dev nD, (∑ r : Fin 15, tallyAt (kcell (devOf d r, f r)) () n : CellTallies nD τ sig Unit) (kcell (c, k)) ())
      = ∑ r : Fin 15, if f r = k then n else 0 := by
  have e : ∀ d : Dev nD, (∑ r : Fin 15, tallyAt (kcell (devOf d r, f r)) () n : CellTallies nD τ sig Unit) (kcell (c, k)) ()
      = ∑ r : Fin 15, if d = devOf c r ∧ f r = k then n else 0 := fun d => by
    rw [Finset.sum_apply, Finsupp.finset_sum_apply]
    refine Finset.sum_congr rfl fun r _ => ?_
    rw [tallyAt_apply]
    refine if_congr ⟨fun h => ?_, fun h => ?_⟩ rfl rfl
    · have h1 := kcell_inj h.1
      have h2 : c = devOf d r := congrArg Prod.fst h1
      exact ⟨by rw [h2, devOf_devOf], (congrArg Prod.snd h1).symm⟩
    · rw [h.1, h.2, devOf_devOf]; exact ⟨rfl, rfl⟩
  rw [Finset.sum_congr rfl fun d _ => e d, Finset.sum_comm]
  refine Finset.sum_congr rfl fun r _ => ?_
  by_cases hf : f r = k
  · simp only [hf, and_true, if_true]
    rw [Finset.sum_ite_eq' Finset.univ (devOf c r) fun _ => n, if_pos (Finset.mem_univ _)]
  · simp only [hf, and_false, if_false, Finset.sum_const_zero]

theorem xk_iff (a a' : Fin 4) (h h' : Fin 2) (r r' : Fin 15) : xk a h r = xk a' h' r' ↔ a = a' ∧ h = h' ∧ r = r' := by
  constructor
  · intro e; injection e with e; injection e with e; injection e with e1 e; injection e with e2 e3; exact ⟨e1, e2, e3⟩
  · rintro ⟨rfl, rfl, rfl⟩; rfl

/-- The sum of a family's debts to cells of its own index. -/
theorem sum_pick (a a' : Fin 4) (h h' : Fin 2) (r : Fin 15) (n : ℕ) :
    (∑ r' : Fin 15, if xk a h r' = xk a' h' r then n else 0) = if a = a' ∧ h = h' then n else 0 := by
  simp only [xk_iff]
  by_cases e : a = a' ∧ h = h'
  · simp [e.1, e.2]
  · rw [if_neg e]
    exact Finset.sum_eq_zero fun r' _ => if_neg fun h => e ⟨h.1, h.2.1⟩

/-- What a cell is owed in all. -/
def due : CK → ℕ
  | .inl _ => 15
  | .inr (.inl _) => 0
  | .inr (.inr x) => if x.1 = 1 ∨ x.1 = 3 then N else 0

theorem owed_all (c : Dev nD) (k : CK) : (∑ d : Dev nD, O₀ d (kcell (c, k)) ()) = due k := by
  have e : ∀ d : Dev nD, O₀ d (kcell (c, k)) () = owX 1 d 0 Finset.univ (kcell (c, k)) () + owX 1 d 1 Finset.univ (kcell (c, k)) ()
      + owX 3 d 0 Finset.univ (kcell (c, k)) () + owX 3 d 1 Finset.univ (kcell (c, k)) () + owB d Finset.univ (kcell (c, k)) () := fun d => rfl
  rw [Finset.sum_congr rfl fun d _ => e d]
  simp only [Finset.sum_add_distrib]
  have hX := fun (a : Fin 4) (h : Fin 2) => owed_family (fun r => xk a h r) N c k
  have hB := owed_family (fun _ => bar) 1 c k
  unfold owX owB
  rw [hX, hX, hX, hX, hB]
  rcases k with _ | j | ⟨a, h, r⟩
  · simp [due]
  · simp [due]
  · have : (∑ r_1 : Fin 15, if (bar : CK) = xk a h r then 1 else 0) = 0 := Finset.sum_eq_zero fun _ _ => if_neg (fun h => by cases h)
    rw [sum_pick 1 a 0 h, sum_pick 1 a 1 h, sum_pick 3 a 0 h, sum_pick 3 a 1 h, this]
    fin_cases a <;> fin_cases h <;> simp [due]

theorem launch_cell (c : Dev nD) (k : CK) :
    tallyOn (kcell (c, k)) (launchCredit (Pipeline.owing O₀) 0 (kcell (c, k))) = (tallyAt (kcell (c, k)) () (due k) : CellTallies nD τ sig Unit) := by
  unfold tallyAt; refine congrArg _ (Finsupp.ext fun u => ?_); cases u
  rw [Finsupp.single_eq_same, ← owed_all c k]
  exact Pipeline.launchCredit_owing _ _ _

theorem creds_intro (c : Dev nD) : (Pipeline.launchCred O₀ c : sProp 𝕄) ⊢ creds (F := F) c := by
  have h1 : (Pipeline.launchCred O₀ c : sProp 𝕄) ⊢ bigSep Finset.univ fun k : CK => cred (tallyAt (kcell (c, k)) () (due k)) := by
    unfold Pipeline.launchCred
    refine (bigSep_subset (Finset.subset_univ (Finset.univ.map ⟨csem, csem_inj⟩))).trans ?_
    rw [bigSep_map]
    exact bigSep_mono fun k _ => Entails.of_eq (congrArg cred (launch_cell c k))
  refine h1.trans ?_
  rw [all_cells, own_cells]
  unfold creds quad
  iintro ⟨HB, -, -, H1, -, H3⟩
  isplitl [HB]; · iexact HB
  isplitl [H1]; · iexact H1
  iexact H3

end Cert.KernelIdeal.Pf

end
-- ==== Proof.Launch.lean ====
/- The launch: from the machine's start to the run of the whole program. -/
module

public import proofs.«01_k».proof.Proof.Ghost
public import Idealize.ShloMosaic.Lib.Pipeline.CollectiveSegs
public import Idealize.ShloMosaic.Lib.Pipeline.ValueKit.Geometry

@[expose] public section

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

section Run

variable (m : (ℓ : Loc nD τ sig) → Buf (Elt F) ℓ) (ρ : Dev nD → PrngReg)

/-! ## What a device starts from and ends with -/

/-- The weights a device holds, at their launch contents. -/
def held (c : Dev nD) : sProp 𝕄 :=
  iprop((((c : Thread nD τ).loc main_arg1) ↦{fullShare} m ((c : Thread nD τ).loc main_arg1))
    ∗ (((c : Thread nD τ).loc main_arg2) ↦{fullShare} m ((c : Thread nD τ).loc main_arg2))
    ∗ (((c : Thread nD τ).loc main_arg3) ↦{fullShare} m ((c : Thread nD τ).loc main_arg3))
    ∗ (((c : Thread nD τ).loc main_arg4) ↦{fullShare} m ((c : Thread nD τ).loc main_arg4)))

/-- What the body does not touch of the key and value weights. -/
def restKV (c : Dev nD) : sProp 𝕄 :=
  iprop(((Memref.whole main_arg2).view.loc (c : Thread nD τ) ↦[(Memref.whole main_arg2).view.set \ (kvW (Memref.whole main_arg2) c).view.set]{fullShare} m ((c : Thread nD τ).loc main_arg2))
    ∗ ((Memref.whole main_arg3).view.loc (c : Thread nD τ) ↦[(Memref.whole main_arg3).view.set \ (kvW (Memref.whole main_arg3) c).view.set]{fullShare} m ((c : Thread nD τ).loc main_arg3)))

theorem whole_in (c : Dev nD) (b : Ref sig .tc) (f : Buf (Elt F) ((c : Thread nD τ).loc b)) :
    (((c : Thread nD τ).loc b ↦{fullShare} f) : sProp 𝕄) ⊢ own c (Memref.whole b) ((Memref.whole b).view.read (Elt F) f) :=
  Entails.of_eq (own_whole c b fullShare f).symm

theorem whole_out (c : Dev nD) (b : Ref sig .tc) (f : Buf (Elt F) ((c : Thread nD τ).loc b)) :
    (own c (Memref.whole b) ((Memref.whole b).view.read (Elt F) f) : sProp 𝕄) ⊢ ((c : Thread nD τ).loc b ↦{fullShare} f) :=
  Entails.of_eq (own_whole c b fullShare f)

theorem held_split (c : Dev nD) : held m c ⊢ iprop(argsIn m c ∗ restKV m c) := by
  unfold held argsIn restKV
  iintro ⟨H1, H2, H3, H4⟩
  ihave H1 := (whole_in c main_arg1 _) $$ H1
  ihave H2 := (whole_in c main_arg2 _) $$ H2
  ihave H3 := (whole_in c main_arg3 _) $$ H3
  ihave H4 := (whole_in c main_arg4 _) $$ H4
  icases (kv_cut c (Memref.whole main_arg2) (m ((c : Thread nD τ).loc main_arg2))).1 $$ H2 with ⟨H2, R2⟩
  icases (kv_cut c (Memref.whole main_arg3) (m ((c : Thread nD τ).loc main_arg3))).1 $$ H3 with ⟨H3, R3⟩
  isplitr [R2 R3]
  · isplitl [H1]; · iexact H1
    isplitl [H2]; · iexact H2
    isplitl [H3]; · iexact H3
    iexact H4
  isplitl [R2]; · iexact R2
  iexact R3

theorem held_join (c : Dev nD) : iprop(argsIn m c ∗ restKV m c) ⊢ held m c := by
  unfold held argsIn restKV
  iintro ⟨⟨H1, H2, H3, H4⟩, ⟨R2, R3⟩⟩
  ihave H2 := (kv_cut c (Memref.whole main_arg2) (m ((c : Thread nD τ).loc main_arg2))).2 $$ [H2 R2]
  · isplitl [H2]; · iexact H2
    iexact R2
  ihave H3 := (kv_cut c (Memref.whole main_arg3) (m ((c : Thread nD τ).loc main_arg3))).2 $$ [H3 R3]
  · isplitl [H3]; · iexact H3
    iexact R3
  isplitl [H1]
  · iapply (whole_out c main_arg1 (m ((c : Thread nD τ).loc main_arg1))); iexact H1
  isplitl [H2]
  · iapply (whole_out c main_arg2 (m ((c : Thread nD τ).loc main_arg2))); iexact H2
  isplitl [H3]
  · iapply (whole_out c main_arg3 (m ((c : Thread nD τ).loc main_arg3))); iexact H3
  iapply (whole_out c main_arg4 (m ((c : Thread nD τ).loc main_arg4))); iexact H4

/-- The ghost state a device starts from. -/
def G' (c : Dev nD) : sProp 𝕄 := iprop(∃ K, records m K ∗ tok (F := F) c ∗ pos (F := F) c 0)

def start (c : Dev nD) : sProp 𝕄 := iprop(G' m c ∗ creds (F := F) c ∗ levAts L lv ∗ held m c)

def Φ₀ (c : Dev nD) : sProp 𝕄 := iprop(start m c ∗ scr (F := F) c)
def Φ₁ (c : Dev nD) : sProp 𝕄 := iprop(scr (F := F) c ∗ held m c ∗ bigSep Finset.univ fun k : CK => semVal (kcell (c, k)) 0)

theorem fin_N (t : Fin cfg0.N) : t = t0_0 := fin_N0 t

def dats (_ : Fin 1) (c : Dev nD) : Dat τ (Elt F) Unit ℕ UU ℕ cfg0 c where
  A w := m ((cfg0.win w).arr.view.loc (c : Thread nD τ))
  after w _ := match w with
    | ⟨0, _⟩ => xAt m c
    | ⟨1, _⟩ => outAt m
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body -/

/-- Using a lasting fact in every part of a separating product. -/
theorem big_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All cells of a device that has finished close, their counters at zero. -/
theorem close_all (K : Dev nD × CK → ℕ) (c : Dev nD) :
    iprop(records m K ∗ pos (F := F) c 1) ⊢ |={Set.univ}=> bigSep Finset.univ fun k : CK => (semVal (kcell (c, k)) 0 : sProp 𝕄) := by
  rw [← pos_eq]
  refine BIBase.Entails.trans (big_with (Ψ := fun k : CK => iprop(|={Set.univ}=> semVal (kcell (c, k)) 0)) fun k _ => ?_) (bigSep_fupd _ _)
  iintro ⟨#HR, H⟩
  iapply (Rounds.cell_close ER (Rd m) (κ := K (c, k)) (Set.mem_univ _) (fun h => h) (R := 0 + 1) (Rd_later m (kcell (c, k))))
  isplitr
  · iapply (inv_at m K (c, k)); iexact HR
  iexact H

abbrev stg (c : Dev nD) (b : Ref sig .tc) (X : b.ty.Contents (Elt F)) : sProp 𝕄 := own c (Memref.whole b) X

def bodyPre (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))
def bodyPost (c : Dev nD) : sProp 𝕄 :=
  iprop(Φ₁ m c ∗ (dats m 0 c).owesAt () t0_0.succ ∗ stg c cc0_stg0_0 (xAt m c) ∗ stg c cc0_stg1_0 (outAt m))

theorem before_x (c : Dev nD) (d) : (dats m 0 c).before (0 : Fin 2) t0_0 d = xAt m c := by
  unfold Dat.before; rw [if_pos (fetch0_0 t0_0)]; rfl

set_option maxRecDepth 100000 in
theorem sound_body (c : Dev nD) : bodyPre m c ⊢ WP c (loopBody (F := F)) (fun _ => bodyPost m c) := by
  unfold loopBody WP
  rw [wp_deviceId]
  unfold bodyPre Φ₀ start G'
  iintro ⟨⟨⟨⟨%K, #HR, Ht, Hp⟩, Hc, #Hlev, Hh⟩, Hs⟩, Ho, ⟨%d0, Hx⟩, ⟨%d1, Hy⟩⟩
  icases (held_split m c) $$ Hh with ⟨Ha, Hr⟩
  unfold Dat.owesAt Pipeline.owesWithin
  icases Ho with ⟨%W, -, HO⟩
  rw [show (dats m 0 c).owed t0_0.castSucc = O₀ c from rfl, before_x]
  ihave #Hf := (show iprop(records m K ∗ levAts L lv) ⊢ facts m K from .rfl) $$ [HR Hlev]
  · isplitr; · iexact HR
    iexact Hlev
  iapply wp_fupd
  iapply (body_main m K c (fun _ => iprop(|={Set.univ}=> bodyPost m c))) $$ [Ht Hp Hc Ha Hs Hx Hy HO]
  · isplitr; · iexact Hf
    isplitl [Ha]; · iexact Ha
    isplitl [Hx]; · iexact Hx
    isplitl [Hy]; · iexists _; iexact Hy
    isplitl [Hs]; · iexact Hs
    isplitl [Ht]; · iexact Ht
    isplitl [Hp]; · iexact Hp
    isplitl [Hc]; · iexact Hc
    unfold owing; iexists W; iexact HO
  unfold owing
  iintro ⟨Ha, Hx, Hy, Hs, Hp, ⟨%W', HO⟩⟩
  imod (close_all m K c) $$ [Hp] with Hz
  · isplitr; · iexact HR
    iexact Hp
  imodintro
  unfold bodyPost Φ₁ Dat.owesAt Pipeline.owesWithin
  rw [show (dats m 0 c).owed t0_0.succ = 0 from rfl]
  isplitl [Ha Hr Hs Hz]
  · isplitl [Hs]; · iexact Hs
    isplitl [Ha Hr]
    · iapply (held_join m c)
      isplitl [Ha]; · iexact Ha
      iexact Hr
    iexact Hz
  isplitl [HO]
  · iexists W'
    isplitr; · ipureintro; exact fun _ _ => Or.inl trivial
    iexact HO
  isplitl [Hx]; · iexact Hx
  iexact Hy

set_option maxRecDepth 100000 in
theorem body_obligation (c : Dev nD) : BodyObligation (dats (F := F) m 0 c) (defs₀ (F := F)) 𝒱₀ () Set.univ := fun t => by
  rw [fin_N t]
  rw [bigSep_W0, bigSep_W0]
  show bodyPre m c ⊢ wp frame (wpE (defs₀ (F := F)) 𝒱₀ c none) Set.univ (bodyAt0 (F := F) t0_0) (fun _ => bodyPost m c)
  rw [body_eq_loops]
  exact sound_body m c

/-! ## The launch -/

theorem ownSemFacts : Pipeline.OwnSemFacts cfg0.spec osem where
  isScoped := by decide +kernel
  inj := fun a b h => Sum.inr.inj (csem_inj (a₁ := .inr a) (a₂ := .inr b) h)
  disj := by decide +kernel

theorem share_eq (c : Dev nD) (w : Fin cfg0.W) : (dats m 0 c).share w = fullShare := by unfold Dat.share; split <;> rfl

def u₀ : UU := (initOf (Pipeline.cells cfgs cellOf_inj) (Pipeline.launchToks cfgs cellOf_inj), initOf allCells allToks)

/-- What the launch deals device `c`. -/
def G (c : Dev nD) : sProp 𝕄 :=
  iprop((bigSep Finset.univ fun k : CK => roundState ER (Rd m) (kcell (c, k)) 0)
    ∗ (bigSep Finset.univ fun k : CK => iprop(atPos ER (kcell (c, k)) 0 ∅ 0 ∗ reached ER (kcell (c, k)) 0)) ∗ toks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

theorem unscopedSems0_eq (c : Dev nD) : (unscopedSems0 c : sProp 𝕄) = semVal (kcell (c, bar)) 0 := by
  unfold unscopedSems0; rw [bigSep_eq_bigSepL_of_eq [SemLoc.reg barSem] (by decide) (by decide)]; rfl

theorem sems0_eq (c : Dev nD) :
    (bigSep Finset.univ fun k : CK => semVal (kcell (c, k)) 0 : sProp 𝕄)
      = iprop(unscopedSems0 c ∗ Pipeline.ownSems0 (Ix := Unit) (Name := ℕ) (U := UU) (Lvl := ℕ) (Val := Elt F) (τ := τ) osem c) := by
  rw [unscopedSems0_eq, all_cells]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus]; · iexact Hus
    iexact Hos
  imod (show iprop((bigSep Finset.univ fun k : CK => semVal (kcell (c, k)) 0) ∗ bigSep Finset.univ fun k : CK => roundState ER (Rd m) (kcell (c, k)) 0)
      ⊢ (|={Set.univ}=> bigSep Finset.univ fun k : CK => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

theorem regroup :
    (bigSep Finset.univ fun c : Dev nD => iprop((bigSep Finset.univ fun k : CK => iprop(∃ κ : ℕ, cellInv ER (Rd m) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (Rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄)), toks_deal]
  iintro ⟨HI, ⟨Hat, #HR⟩, Htok⟩
  ihave HK := (BI.bigSep_exists_pi Finset.univ (fun (ck : Dev nD × CK) (κ : ℕ) => (cellInv ER (Rd m) κ (kcell ck) : sProp 𝕄))) $$ HI
  icases HK with ⟨%K, #HI⟩
  iapply (big_with (R := records m K) (Φ := fun c : Dev nD => iprop((bigSep Finset.univ fun k : CK => atPos ER (kcell (c, k)) 0 ∅ 0) ∗ tok (F := F) c))
    fun c _ => show iprop(records m K ∗ _) ⊢ G' m c from by
      rw [pos_eq]
      unfold G'
      iintro ⟨#H, Hp, Ht⟩
      iexists K
      isplitr; · iexact H
      isplitl [Ht]; · iexact Ht
      iexact Hp)
  isplitr
  · unfold records; isplitr; · iexact HI
    iexact HR
  · rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hh, Hlev, Hcr, -, HG⟩
  ihave Hc := (creds_intro (F := F) c) $$ Hcr
  imodintro
  unfold start
  isplitl
  · unfold held
    isplitl [HG]; · iexact HG
    isplitl [Hc]; · iexact Hc
    isplitl [Hlev]; · iexact Hlev
    iexact Hh
  · iempintro

theorem scr_eq (c : Dev nD) : (Pipeline.scopedRest (Ix := Unit) (Name := ℕ) (U := UU) (Lvl := ℕ) (Val := Elt F) cfg0.spec c : sProp 𝕄) = scr (F := F) c := by
  rw [show (Pipeline.scopedRest (Ix := Unit) (Name := ℕ) (U := UU) (Lvl := ℕ) (Val := Elt F) cfg0.spec c : sProp 𝕄) = _ from scopedRest0_eq c]
  unfold scr
  simp only [ownAny_whole]

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scr_eq]
  unfold Φ₀
  iintro ⟨Hs, -, Hr⟩
  isplitl [Hs]; · iexact Hs
  iexact Hr

theorem phi1_exit (c : Dev nD) :
    (dats m 0 c).Φ (Fin.last cfg0.N) ⊢ iprop((unscopedSems0 c ∗ held m c) ∗ Pipeline.ownSems0 osem c ∗ Pipeline.scopedRest cfg0.spec c) := by
  rw [show (dats m 0 c).Φ (Fin.last cfg0.N) = Φ₁ m c from rfl, scr_eq]
  unfold Φ₁
  rw [sems0_eq]
  iintro ⟨Hs, Hh, Hu, Ho⟩
  isplitl [Hu Hh]
  · isplitl [Hu]; · iexact Hu
    iexact Hh
  isplitl [Ho]; · iexact Ho
  iexact Hs

theorem above_O₀ (c : Dev nD) : Above 0 (O₀ c) := above_add (above_owR (by decide) c _ _ _ _) (above_owB c _)

theorem waits (c : Dev nD) : (levAts L lv : sProp 𝕄) ⊢ Pipeline.cellsWaits cfgs (dats m) () 0 c :=
  Pipeline.cellsWaits_intro cfgs (dats m) () 0 c fun w s t =>
    mayWait_above c _ 0 _ (by fin_cases w <;> fin_cases s <;> exact Nat.le_refl 0) (by
      rcases t with ⟨_ | _, ht⟩
      · exact above_O₀ c
      · exact above_zero 0)

/-! ## The run -/

theorem arr_out (c : Dev nD) : (dats (F := F) m 0 c).arrAt 1 cfg0.N = outAt m :=
  (dats m 0 c).arrAt_eq_of_after_last 1 t0_0 (by decide +kernel) (outAt m) fun j => rfl

theorem arr_in (c : Dev nD) : (dats (F := F) m 0 c).arrAt 0 cfg0.N = m ((c : Thread nD τ).loc main_arg0) :=
  (dats m 0 c).arrAt_in (0 : Fin 2) rfl _

/-- What every run ends with. -/
def Post (r : PUnit × MemSt nD τ sig (Elt F)) : Prop :=
  (∀ c : Dev nD, r.2.mem ((c : Thread nD τ).loc main_v1) = outAt m
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4))
  ∧ r.2.sem = fun _ => 0

/-- What a device's end says of the memory and the counters. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)

theorem read_one (c : Dev nD) (b : Ref sig .tc) (f : Buf (Elt F) ((c : Thread nD τ).loc b)) (s' : Phys nD τ sig (Elt F)) :
    iprop((((c : Thread nD τ).loc b) ↦{fullShare} f) ∗ SI s') ⊢ (iprop(⌜s'.mem.mem ((c : Thread nD τ).loc b) = f⌝ ∗ SI s') : sProp 𝕄) := by
  have h := Idealize.ShloMosaic.pointsTo_read_all (Ix := Unit) (Name := ℕ) (U := UU) (Lvl := ℕ) {()} (fun _ : Unit => (c : Thread nD τ).loc b) (fun _ => f) s'
  rw [bigSep_singleton] at h
  refine h.trans ?_
  iintro ⟨%h, H⟩
  isplitr; · ipureintro; exact h () (Finset.mem_singleton_self _)
  iexact H

theorem read_end (c : Dev nD) (s' : Phys nD τ sig (Elt F)) :
    iprop((unscopedSems0 c ∗ held m c) ∗ emp ∗ SI s') ⊢ |={Set.univ}=> (iprop(⌜QY m c s'.mem⌝ ∗ SI s') : sProp 𝕄) := by
  unfold held
  iintro ⟨⟨Hu, H1, H2, H3, H4⟩, -, HSI⟩
  icases (read_one c main_arg1 _ s') $$ [H1 HSI] with ⟨%h1, HSI⟩
  · isplitl [H1]; · iexact H1
    iexact HSI
  icases (read_one c main_arg2 _ s') $$ [H2 HSI] with ⟨%h2, HSI⟩
  · isplitl [H2]; · iexact H2
    iexact HSI
  icases (read_one c main_arg3 _ s') $$ [H3 HSI] with ⟨%h3, HSI⟩
  · isplitl [H3]; · iexact H3
    iexact HSI
  icases (read_one c main_arg4 _ s') $$ [H4 HSI] with ⟨%h4, HSI⟩
  · isplitl [H4]; · iexact H4
    iexact HSI
  imod (Pipeline.unscopedSems0_read (X := unscopedSems0 c) (c := c) fupd_intro s') $$ [Hu HSI] with ⟨%h0, HSI⟩
  · isplitl [Hu]; · iexact Hu
    iexact HSI
  imodintro
  isplitr
  · ipureintro; exact ⟨h0, h1, h2, h3, h4⟩
  iexact HSI

set_option maxRecDepth 100000 in
/-- Every fair run of the program from zero counters ends with the gathered result on every device, the arguments as
    they were and every counter at zero. -/
theorem run_main : θ_run defs (onTc (τ := τ) (main (F := F))) ⟨m, fun _ => 0, ρ⟩ (Post m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      icases (ownU_pair _ _) $$ Hu with ⟨HP, HX⟩
      imod (fund_all m) $$ HX with HG
      imodintro
      isplitl [HP]; · iexact HP
      iexact HG)
    (hglob := glob m)
    (hA := fun _ _ => rfl) (hpf := fun _ k => k.elim0)
    (X := start m) (Y := fun c => iprop(unscopedSems0 c ∗ held m c)) (Z := fun _ => iprop(emp))
    (hX := start_intro m ρ) (hin := phi0_intro m) (hout := phi1_exit m)
    (QY := QY m)
    (hY := read_end m)
    (hQ := fun _ h hs => ⟨fun c => ⟨((h c).1 1).trans (arr_out m c), ((h c).1 0).trans (arr_in m c), (h c).2.2.2⟩,
      sem_eq_zero hs fun c => (h c).2.2.1⟩)

end Run

end Cert.KernelIdeal.Pf

end
-- ==== Proof.Softmax.lean ====
/- Weighted means with exponential weights over the extended reals: shifting every exponent by one real number changes
   nothing, and a largest score of real scores is real. -/
module

public import Idealize.ShloMosaic.PureOps.Ideal

@[expose] public section

noncomputable section

namespace Cert.Math

open Idealize.ShloMosaic

/-! ## Real values among the extended reals -/

/-- The value is a real number. -/
def IsReal (a : EReal) : Prop := ∃ r : ℝ, a = (r : EReal)

theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- A finite sum of reals, taken among the extended reals, is their real sum. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem IsReal.sum {ι : Type} (t : Finset ι) (f : ι → EReal) (h : ∀ i, IsReal (f i)) : IsReal (∑ i ∈ t, f i) := by
  choose g hg using h
  exact ⟨∑ i ∈ t, g i, by rw [coe_sum]; exact Finset.sum_congr rfl fun i _ => hg i⟩

/-! ## Scaling a sum -/

/-- A nonnegative real factor moves into a finite sum of extended reals. -/
theorem coe_mul_sum {ι : Type} (c : ℝ) (hc : 0 ≤ c) (t : Finset ι) (f : ι → EReal) :
    (c : EReal) * ∑ i ∈ t, f i = ∑ i ∈ t, (c : EReal) * f i := by
  classical
  induction t using Finset.induction_on with
  | empty => simp
  | insert a t ha ih =>
    rw [Finset.sum_insert ha, Finset.sum_insert ha,
      EReal.left_distrib_of_nonneg_of_ne_top (EReal.coe_nonneg.mpr hc) (EReal.coe_ne_top c), ih]

/-! ## The shift of the exponents -/

/-- Shifting all the exponents by one real number scales numerator and denominator alike. The averaged values may be
    any extended reals. -/
theorem softmax_shift {ι : Type} [Fintype ι] [Nonempty ι] (s : ι → ℝ) (M : ℝ) (v : ι → EReal) :
    Ideal.div (∑ t, v t * Ideal.exp ((s t : EReal) - (M : EReal))) (∑ t, Ideal.exp ((s t : EReal) - (M : EReal)))
      = Ideal.div (∑ t, Ideal.exp (s t : EReal) * v t) (∑ t, Ideal.exp (s t : EReal)) := by
  have hE : 0 < Real.exp (-M) := Real.exp_pos _
  have hD : 0 < ∑ t, Real.exp (s t) := Finset.sum_pos (fun t _ => Real.exp_pos _) Finset.univ_nonempty
  have hexp : ∀ t, Ideal.exp ((s t : EReal) - (M : EReal)) = ((Real.exp (-M) : ℝ) : EReal) * ((Real.exp (s t) : ℝ) : EReal) := by
    intro t
    rw [← EReal.coe_sub, Ideal.exp_coe, ← EReal.coe_mul, ← Real.exp_add]
    congr 2
    ring
  have hnum : (∑ t, v t * Ideal.exp ((s t : EReal) - (M : EReal)))
      = ((Real.exp (-M) : ℝ) : EReal) * ∑ t, Ideal.exp (s t : EReal) * v t := by
    rw [coe_mul_sum _ hE.le]
    refine Finset.sum_congr rfl fun t _ => ?_
    rw [hexp, Ideal.exp_coe, mul_comm (v t), mul_assoc]
  have hden : (∑ t, Ideal.exp ((s t : EReal) - (M : EReal))) = ((Real.exp (-M) * ∑ t, Real.exp (s t) : ℝ) : EReal) := by
    rw [Finset.mul_sum, coe_sum]
    refine Finset.sum_congr rfl fun t _ => ?_
    rw [hexp, EReal.coe_mul]
  have hden' : (∑ t, Ideal.exp (s t : EReal)) = ((∑ t, Real.exp (s t) : ℝ) : EReal) := by
    rw [coe_sum]
    exact Finset.sum_congr rfl fun t _ => Ideal.exp_coe _
  rw [hnum, hden, hden', Ideal.div_coe (mul_pos hE hD).ne', Ideal.div_coe hD.ne', mul_comm ((Real.exp (-M) : ℝ) : EReal), mul_assoc,
    ← EReal.coe_mul]
  congr 2
  field_simp

/-! ## The largest score -/

/-- The largest of finitely many real scores, from minus infinity, is real when there is a score. -/
theorem isReal_fold_max {ι : Type} [Fintype ι] [Nonempty ι] (f : ι → EReal) (h : ∀ i, IsReal (f i)) :
    IsReal (Finset.univ.fold max ⊥ f) := by
  classical
  have key : ∀ t : Finset ι, t = ∅ ∨ IsReal (t.fold max ⊥ f) := by
    intro t
    induction t using Finset.induction_on with
    | empty => exact .inl rfl
    | insert a t ha ih =>
      right
      rw [Finset.fold_insert ha]
      rcases ih with rfl | ih
      · rw [Finset.fold_empty, max_eq_left bot_le]; exact h a
      · rcases max_choice (f a) (t.fold max ⊥ f) with e | e <;> rw [e]
        exacts [h a, ih]
  exact (key Finset.univ).resolve_left Finset.univ_nonempty.ne_empty

/-- The mean with the weights taken from the shifted exponents, spelled as an update of an empty running mean whose
    running maximum is minus infinity. -/
theorem softmax_update {ι : Type} [Fintype ι] [Nonempty ι] (s v : ι → EReal) (hs : ∀ t, IsReal (s t)) (M : EReal) (hM : IsReal M) (a : EReal) :
    Ideal.div (0 * a + ∑ t, v t * Ideal.exp (s t - M)) (0 * a + ∑ t, Ideal.exp (s t - M))
      = Ideal.div (∑ t, Ideal.exp (s t) * v t) (∑ t, Ideal.exp (s t)) := by
  choose r hr using hs
  obtain ⟨M, rfl⟩ := hM
  obtain rfl : s = fun t => (r t : EReal) := funext hr
  rw [zero_mul, zero_add, zero_add]
  exact softmax_shift r M v

end Cert.Math

end
-- ==== Proof.Spec.lean ====
/- The attention as formulas of the whole arrays, element by element: the projections, the scores, one head, the
   heads side by side and the output projection. -/
module

public import proofs.«01_k».proof.Proof.Softmax
public import Idealize.ShloMosaic.Lib.Pointwise.Index

@[expose] public section

noncomputable section

namespace Cert.Math

open Idealize.ShloMosaic

/-- The input's type and the weight matrices' type, as arrays of extended reals. -/
abbrev Inp := (⟨3, ![1, 256, 1024]⟩ : Shape).Idx → EReal
abbrev Mat (k n : ℕ) := (⟨2, ![k, n]⟩ : Shape).Idx → EReal

/-- Row `i` of the input times column `n` of a weight matrix. -/
def proj {N : ℕ} (X : Inp) (W : Mat 1024 N) (i : Fin 256) (n : Fin N) : EReal := ∑ k : Fin 1024, X (ix3 0 i k) * W (ix2 k n)

/-- Column `e` of query head `h`, and of the key and value head that serves it. -/
def qcol (h e : Fin 128) : Fin 16384 := ⟨128 * h.val + e.val, by omega⟩
def kcol (h e : Fin 128) : Fin 4096 := ⟨128 * (h.val / 4) + e.val, by omega⟩

/-- The factor of the scores. -/
def factor : EReal := Ideal.ofBits .f32 0x3DB504F3#32

theorem isReal_factor : IsReal factor := by
  unfold factor
  simp [Ideal.ofBits, Ideal.ieee, -EReal.coe_mul]
  exact ⟨_, rfl⟩

variable (X : Inp) (Wq : Mat 1024 16384) (Wk Wv : Mat 1024 4096) (Wo : Mat 16384 1024)

/-- The score of query row `i` against key row `t`, in head `h`. -/
def score (h : Fin 128) (i t : Fin 256) : EReal := (∑ e : Fin 128, proj X Wq i (qcol h e) * proj X Wk t (kcol h e)) * factor

/-- Head `h`: the mean of the values, with exponential weights. -/
def headVal (h : Fin 128) (i : Fin 256) (e : Fin 128) : EReal :=
  Ideal.div (∑ t : Fin 256, Ideal.exp (score X Wq Wk h i t) * proj X Wv t (kcol h e)) (∑ t : Fin 256, Ideal.exp (score X Wq Wk h i t))

/-- The heads side by side. -/
def mixed (i : Fin 256) (K : Fin 16384) : EReal :=
  headVal X Wq Wk Wv ⟨K.val / 128, by omega⟩ i ⟨K.val % 128, by omega⟩

/-- The result. -/
def total (i : Fin 256) (n : Fin 1024) : EReal := ∑ K : Fin 16384, mixed X Wq Wk Wv i K * Wo (ix2 K n)

variable {X Wq Wk}

theorem isReal_proj {N : ℕ} {W : Mat 1024 N} (hX : ∀ i, IsReal (X i)) (hW : ∀ i, IsReal (W i)) (i : Fin 256) (n : Fin N) :
    IsReal (proj X W i n) :=
  IsReal.sum _ _ fun _ => (hX _).mul (hW _)

theorem isReal_score (hX : ∀ i, IsReal (X i)) (hq : ∀ i, IsReal (Wq i)) (hk : ∀ i, IsReal (Wk i)) (h : Fin 128) (i t : Fin 256) :
    IsReal (score X Wq Wk h i t) :=
  (IsReal.sum _ _ fun _ => (isReal_proj hX hq _ _).mul (isReal_proj hX hk _ _)).mul isReal_factor

end Cert.Math

end
-- ==== Proof.KAttn.lean ====
/- One device's attention over the extended reals: each stored block as a formula of the device's blocks. -/
module

public import proofs.«01_k».proof.Proof.Common
public import proofs.«01_k».proof.Proof.Spec
public import Idealize.ShloMosaic.Lib.Pointwise

@[expose] public section

noncomputable section

namespace Cert.KernelIdeal.Pf

open Idealize.ShloMosaic Idealize.ShloMosaic.TcCoe Cert.KernelIdeal Cert.KernelIdeal.Gen Cert.Math

/-- An index by its coordinates, in the words of the contents' definitions and of the formulas. -/
theorem ix2_mk {n₀ n₁ : ℕ} (a b : ℕ) (ha : a < n₀) (hb : b < n₁) :
    (Pf.ix2 a b ha hb : (⟨2, ![n₀, n₁]⟩ : Shape).Idx) = Idealize.ShloMosaic.ix2 ⟨a, ha⟩ ⟨b, hb⟩ := by
  funext k
  match k with
  | ⟨0, _⟩ => rfl
  | ⟨1, _⟩ => rfl

/-! ## The blocks a device reads -/

section Blocks
variable (m : (ℓ : Loc nD τ sig) → Buf (Elt Ideal) ℓ) (c : Dev nD)

/-- The input's block is the whole input. -/
theorem xAt_eq : xAt m c = m ((c : Thread nD τ).loc main_arg0) := by
  funext i
  show m ((c : Thread nD τ).loc main_arg0) ((win0_0.rect (0 : Fin 1)).emb i) = m ((c : Thread nD τ).loc main_arg0) i
  congr 1
  funext a
  exact Fin.ext (win0_0.rect_emb_val_of_index_zero (0 : Fin 1) a (by revert a; decide +kernel) i)

theorem kOff_eq : ∀ d : Dev nD, k0_off1 d = ![0, 256 * d.val] := by decide +kernel

/-- Column `j` of the device's key or value columns, in the whole matrix. -/
def kvCol (c : Dev nD) (j : Fin 256) : Fin 4096 := ⟨256 * c.val + j.val, by have := c.isLt; have h : nD = 16 := rfl; omega⟩

theorem kv_emb (k : Fin 1024) (j : Fin 256) :
    (Rect.unit (s := S1024x4096) (k0_off1 c) S1024x256.size (k0_off1_inb c)).emb (Idealize.ShloMosaic.ix2 k j)
      = Idealize.ShloMosaic.ix2 k (kvCol c j) := by
  funext a
  apply Fin.ext
  show k0_off1 c a + 1 * (Idealize.ShloMosaic.ix2 k j a).val = _
  rw [kOff_eq]
  match a with
  | ⟨0, _⟩ => show 0 + 1 * k.val = k.val; omega
  | ⟨1, _⟩ => show 256 * c.val + 1 * j.val = 256 * c.val + j.val; omega

theorem wkAt_apply (k : Fin 1024) (j : Fin 256) :
    wkAt m c (Idealize.ShloMosaic.ix2 k j) = m ((c : Thread nD τ).loc main_arg2) (Idealize.ShloMosaic.ix2 k (kvCol c j)) :=
  congrArg (m ((c : Thread nD τ).loc main_arg2)) (kv_emb c k j)

theorem wvAt_apply (k : Fin 1024) (j : Fin 256) :
    wvAt m c (Idealize.ShloMosaic.ix2 k j) = m ((c : Thread nD τ).loc main_arg3) (Idealize.ShloMosaic.ix2 k (kvCol c j)) :=
  congrArg (m ((c : Thread nD τ).loc main_arg3)) (kv_emb c k j)

end Blocks

/-! ## One head -/

/-- One head: columns `a …` of the queries against columns `b …` of the keys, averaging columns `b …` of the values. -/
def cell (q : Mat 256 1024) (k v : Mat 256 256) (a b : ℕ) (ha : a + 128 ≤ 1024) (hb : b + 128 ≤ 256) (i : Fin 256) (e : Fin 128) : EReal :=
  Ideal.div
    (∑ t : Fin 256, Ideal.exp ((∑ f : Fin 128, q (Idealize.ShloMosaic.ix2 i ⟨a + f.val, by omega⟩)
        * k (Idealize.ShloMosaic.ix2 t ⟨b + f.val, by omega⟩)) * factor) * v (Idealize.ShloMosaic.ix2 t ⟨b + e.val, by omega⟩))
    (∑ t : Fin 256, Ideal.exp ((∑ f : Fin 128, q (Idealize.ShloMosaic.ix2 i ⟨a + f.val, by omega⟩)
        * k (Idealize.ShloMosaic.ix2 t ⟨b + f.val, by omega⟩)) * factor))

/-- Four heads' queries, one under the other. -/
def stack (p : Fin 4 → FVec Ideal S256x128 .f32) : FVec Ideal S1024x128 .f32 :=
  concatenate S1024x128 0 [⟨S256x128, p 0⟩, ⟨S256x128, p 1⟩, ⟨S256x128, p 2⟩, ⟨S256x128, p 3⟩]
    concatenates_S256x128_S256x128_S256x128_S256x128_S1024x128_d0

/-- The four heads that share one key and value head, computed together from their stacked queries. -/
def attend (qg : FVec Ideal S1024x128 .bf16) (kg vg : FVec Ideal S256x128 .bf16) : FVec Ideal S1024x128 .bf16 :=
  let p : FVec Ideal S1024x256 .f32 := exp (mulf
    (matmul dot_S1024x128_S256x128_S1024x256_1_1_0_0_n_n none qg kg (constant S1024x256 .f32 0x00000000#32))
    (broadcast S1024x256 (Scalar.ofBits .f32 0x3DB504F3#32)))
  truncf .bf16 (divf
    (matmul dot_S1024x256_S256x128_S1024x128_1_0_0_1_n_n none (truncf .bf16 p bitsLt_bf16_f32) vg (constant S1024x128 .f32 0x00000000#32))
    (broadcastTo S1024x128
      (shapeCast S1024x1 (multiReduction .add [1] S1024 p 0x00000000#32 reduces_S1024x256_S1024 (.inl rfl) rfl : FVec Ideal S1024 .f32)
        shapeCasts_S1024_S1024x1)
      broadcasts_S1024x1_S1024x128)) bitsLt_bf16_f32

theorem attend_apply (qg : FVec Ideal S1024x128 .bf16) (kg vg : FVec Ideal S256x128 .bf16) (r : Fin 1024) (e : Fin 128) :
    attend qg kg vg (Idealize.ShloMosaic.ix2 r e)
      = Ideal.div
        (∑ t : Fin 256, Ideal.exp ((∑ f : Fin 128, qg (Idealize.ShloMosaic.ix2 r f) * kg (Idealize.ShloMosaic.ix2 t f)) * factor)
          * vg (Idealize.ShloMosaic.ix2 t e))
        (∑ t : Fin 256, Ideal.exp ((∑ f : Fin 128, qg (Idealize.ShloMosaic.ix2 r f) * kg (Idealize.ShloMosaic.ix2 t f)) * factor)) := by
  pointwise [attend]
  simp only [factor]

/-- Row `i` of the `n`-th of the stacked blocks. -/
theorem stack_apply (p : Fin 4 → FVec Ideal S256x128 .f32) (n : Fin 4) (i : Fin 256) (e : Fin 128) :
    stack p (Idealize.ShloMosaic.ix2 ⟨256 * n.val + i.val, by omega⟩ e) = p n (Idealize.ShloMosaic.ix2 i e) := by
  match n with
  | 0 => pointwise [stack]
  | 1 => pointwise [stack]
  | 2 =>
    pointwise [stack]
    rw [dif_neg (by omega), dif_neg (by omega), dif_pos (by omega)]
    congr 2
    exact Fin.ext (show 512 + i.val - 256 - 256 = i.val by omega)
  | 3 =>
    pointwise [stack]
    rw [dif_neg (by omega), dif_neg (by omega), dif_neg (by omega)]
    congr 2
    exact Fin.ext (show 768 + i.val - 256 - 256 - 256 = i.val by omega)

/-- Head `n` of a group whose query columns begin at `a` and whose key and value columns begin at `b`. -/
theorem group_apply (q : FVec Ideal S256x1024 .f32) (k v : FVec Ideal S256x256 .f32) (p : Fin 4 → FVec Ideal S256x128 .f32)
    (kg vg : FVec Ideal S256x128 .f32) (a b : ℕ) (ha : a + 512 ≤ 1024) (hb : b + 128 ≤ 256)
    (hp : ∀ (n : Fin 4) i e, p n (Idealize.ShloMosaic.ix2 i e) = q (Idealize.ShloMosaic.ix2 i ⟨a + 128 * n.val + e.val, by omega⟩))
    (hk : ∀ i e, kg (Idealize.ShloMosaic.ix2 i e) = k (Idealize.ShloMosaic.ix2 i ⟨b + e.val, by omega⟩))
    (hv : ∀ i e, vg (Idealize.ShloMosaic.ix2 i e) = v (Idealize.ShloMosaic.ix2 i ⟨b + e.val, by omega⟩))
    (n : Fin 4) (i : Fin 256) (e : Fin 128) :
    attend (truncf .bf16 (stack p) bitsLt_bf16_f32) (truncf .bf16 kg bitsLt_bf16_f32) (truncf .bf16 vg bitsLt_bf16_f32)
        (Idealize.ShloMosaic.ix2 ⟨256 * n.val + i.val, by omega⟩ e)
      = cell q k v (a + 128 * n.val) b (by omega) hb i e := by
  rw [attend_apply]
  simp only [truncf_apply, Ideal.truncf_def, stack_apply, hp, hk, hv, cell]

/-- The group's block is the four heads together, from slices of the projections. -/
theorem pay6_eq (xv : FVec Ideal S256x1024 .bf16) (q : FVec Ideal S256x1024 .f32) (wk wv : Vec Ideal S1024x256 .f32) :
    k0_pay6 xv q wk wv = attend
      (truncf .bf16 (stack ![extractStridedSlice S256x128 ![0, 0] q slices_S256x1024_o0_0_S256x128,
      extractStridedSlice S256x128 ![0, 128] q slices_S256x1024_o0_128_S256x128,
      extractStridedSlice S256x128 ![0, 256] q slices_S256x1024_o0_256_S256x128,
      extractStridedSlice S256x128 ![0, 384] q slices_S256x1024_o0_384_S256x128]) bitsLt_bf16_f32)
      (truncf .bf16 (extractStridedSlice S256x128 ![0, 0] (k0_pay4 xv wk) slices_S256x256_o0_0_S256x128) bitsLt_bf16_f32)
      (truncf .bf16 (extractStridedSlice S256x128 ![0, 0] (k0_pay5 xv wv) slices_S256x256_o0_0_S256x128) bitsLt_bf16_f32) := rfl

theorem pay6_apply (xv : FVec Ideal S256x1024 .bf16) (q : FVec Ideal S256x1024 .f32) (wk wv : Vec Ideal S1024x256 .f32) (n : Fin 4)
    (i : Fin 256) (e : Fin 128) :
    k0_pay6 xv q wk wv (Idealize.ShloMosaic.ix2 ⟨256 * n.val + i.val, by omega⟩ e)
      = cell q (k0_pay4 xv wk) (k0_pay5 xv wv) (0 + 128 * n.val) 0 (by omega) (by omega) i e := by
  rw [pay6_eq]
  refine group_apply q (k0_pay4 xv wk) (k0_pay5 xv wv) _ _ _ 0 0 (by omega) (by omega) ?_ ?_ ?_ n i e
  · intro n i e
    match n with
    | 0 | 1 | 2 | 3 => simp only [Matrix.cons_val]; pointwise
  all_goals intro i e; pointwise

/-- The group's block is the four heads together, from slices of the projections. -/
theorem pay11_eq (q : FVec Ideal S256x1024 .f32) (k v : FVec Ideal S256x256 .f32) :
    k0_pay11 q k v = attend
      (truncf .bf16 (stack ![extractStridedSlice S256x128 ![0, 512] q slices_S256x1024_o0_512_S256x128,
      extractStridedSlice S256x128 ![0, 640] q slices_S256x1024_o0_640_S256x128,
      extractStridedSlice S256x128 ![0, 768] q slices_S256x1024_o0_768_S256x128,
      extractStridedSlice S256x128 ![0, 896] q slices_S256x1024_o0_896_S256x128]) bitsLt_bf16_f32)
      (truncf .bf16 (extractStridedSlice S256x128 ![0, 128] k slices_S256x256_o0_128_S256x128) bitsLt_bf16_f32)
      (truncf .bf16 (extractStridedSlice S256x128 ![0, 128] v slices_S256x256_o0_128_S256x128) bitsLt_bf16_f32) := rfl

theorem pay11_apply (q : FVec Ideal S256x1024 .f32) (k v : FVec Ideal S256x256 .f32) (n : Fin 4)
    (i : Fin 256) (e : Fin 128) :
    k0_pay11 q k v (Idealize.ShloMosaic.ix2 ⟨256 * n.val + i.val, by omega⟩ e)
      = cell q k v (512 + 128 * n.val) 128 (by omega) (by omega) i e := by
  rw [pay11_eq]
  refine group_apply q k v _ _ _ 512 128 (by omega) (by omega) ?_ ?_ ?_ n i e
  · intro n i e
    match n with
    | 0 | 1 | 2 | 3 => simp only [Matrix.cons_val]; pointwise
  all_goals intro i e; pointwise

/-- The eight stored heads, each by its columns. -/
theorem headPay_apply (xv : FVec Ideal S256x1024 .bf16) (q : FVec Ideal S256x1024 .f32) (wk wv : Vec Ideal S1024x256 .f32) (j : Fin 8)
    (i : Fin 256) (e : Fin 128) :
    headPay xv q wk wv j (Idealize.ShloMosaic.ix2 i e)
      = cell q (k0_pay4 xv wk) (k0_pay5 xv wv) (128 * j.val) (128 * (j.val / 4)) (by omega) (by omega) i e := by
  match j with
  | 0 => refine Eq.trans ?_ (pay6_apply xv q wk wv 0 i e); pointwise [headPay, k0_pay7]
  | 1 => refine Eq.trans ?_ (pay6_apply xv q wk wv 1 i e); pointwise [headPay, k0_pay8]
  | 2 => refine Eq.trans ?_ (pay6_apply xv q wk wv 2 i e); pointwise [headPay, k0_pay9]
  | 3 => refine Eq.trans ?_ (pay6_apply xv q wk wv 3 i e); pointwise [headPay, k0_pay10]
  | 4 => refine Eq.trans ?_ (pay11_apply q _ _ 0 i e); pointwise [headPay, k0_pay12]
  | 5 => refine Eq.trans ?_ (pay11_apply q _ _ 1 i e); pointwise [headPay, k0_pay13]
  | 6 => refine Eq.trans ?_ (pay11_apply q _ _ 2 i e); pointwise [headPay, k0_pay14]
  | 7 => refine Eq.trans ?_ (pay11_apply q _ _ 3 i e); pointwise [headPay, k0_pay15]

theorem pay3_apply (x : Vec Ideal S1x256x1024 .f32) (w : Vec Ideal S1024x1024 .f32) (i : Fin 256) (n : Fin 1024) :
    k0_pay3 x w (Idealize.ShloMosaic.ix2 i n) = proj x w i n := by
  pointwise [k0_pay3, k0_pay2]
  rfl

theorem pay4_apply (x : Vec Ideal S1x256x1024 .f32) (w : Vec Ideal S1024x256 .f32) (i : Fin 256) (n : Fin 256) :
    k0_pay4 (k0_pay2 x) w (Idealize.ShloMosaic.ix2 i n) = proj x w i n := by
  pointwise [k0_pay4, k0_pay2]
  rfl

theorem pay5_apply (x : Vec Ideal S1x256x1024 .f32) (w : Vec Ideal S1024x256 .f32) (i : Fin 256) (n : Fin 256) :
    k0_pay5 (k0_pay2 x) w (Idealize.ShloMosaic.ix2 i n) = proj x w i n := by
  pointwise [k0_pay5, k0_pay2]
  rfl

/-- The partial product of the attention with the device's rows of the output projection. -/
theorem pay16_apply (a : Vec Ideal S256x1024 .bf16) (w : Vec Ideal S1024x1024 .f32) (i : Fin 256) (n : Fin 1024) :
    k0_pay16 a w (Idealize.ShloMosaic.ix2 i n) = ∑ k : Fin 1024, a (Idealize.ShloMosaic.ix2 i k) * w (Idealize.ShloMosaic.ix2 k n) := by
  pointwise [k0_pay16]
  done

/-! ## The device's heads as heads of the whole attention -/

/-- The blocks of the devices: the input, the keys' and the values' weights everywhere, sixteen blocks of columns of the
    queries' weights and sixteen blocks of rows of the output projection. -/
structure Blocks (m : (ℓ : Loc nD τ sig) → Buf (Elt Ideal) ℓ) (X : Inp) (Wq : Mat 1024 16384) (Wk Wv : Mat 1024 4096) (Wo : Mat 16384 1024) :
    Prop where
  x : ∀ c : Dev nD, m ((c : Thread nD τ).loc main_arg0) = X
  wq : ∀ (c : Dev nD) (k n : Fin 1024), m ((c : Thread nD τ).loc main_arg1) (Idealize.ShloMosaic.ix2 k n)
    = Wq (Idealize.ShloMosaic.ix2 k ⟨1024 * c.val + n.val, by have := c.isLt; have h : nD = 16 := rfl; omega⟩)
  wk : ∀ c : Dev nD, m ((c : Thread nD τ).loc main_arg2) = Wk
  wv : ∀ c : Dev nD, m ((c : Thread nD τ).loc main_arg3) = Wv
  wo : ∀ (c : Dev nD) (k n : Fin 1024), m ((c : Thread nD τ).loc main_arg4) (Idealize.ShloMosaic.ix2 k n)
    = Wo (Idealize.ShloMosaic.ix2 ⟨1024 * c.val + k.val, by have := c.isLt; have h : nD = 16 := rfl; omega⟩ n)

section Whole
variable {m : (ℓ : Loc nD τ sig) → Buf (Elt Ideal) ℓ} {X : Inp} {Wq : Mat 1024 16384} {Wk Wv : Mat 1024 4096} {Wo : Mat 16384 1024}
variable (B : Blocks m X Wq Wk Wv Wo) (c : Dev nD)
include B

theorem qAt_apply (i : Fin 256) (n : Fin 1024) :
    k0_pay3 (xAt m c) (wqAt m c) (Idealize.ShloMosaic.ix2 i n)
      = proj X Wq i ⟨1024 * c.val + n.val, by have := c.isLt; have h : nD = 16 := rfl; omega⟩ := by
  rw [pay3_apply, xAt_eq, B.x c]
  exact Finset.sum_congr rfl fun k _ => congrArg _ (B.wq c k n)

theorem kAt_apply (i : Fin 256) (n : Fin 256) :
    k0_pay4 (k0_pay2 (xAt m c)) (wkAt m c) (Idealize.ShloMosaic.ix2 i n) = proj X Wk i (kvCol c n) := by
  rw [pay4_apply, xAt_eq, B.x c]
  exact Finset.sum_congr rfl fun k _ => congrArg _ ((wkAt_apply m c k n).trans (congrFun (B.wk c) _))

theorem vAt_apply (i : Fin 256) (n : Fin 256) :
    k0_pay5 (k0_pay2 (xAt m c)) (wvAt m c) (Idealize.ShloMosaic.ix2 i n) = proj X Wv i (kvCol c n) := by
  rw [pay5_apply, xAt_eq, B.x c]
  exact Finset.sum_congr rfl fun k _ => congrArg _ ((wvAt_apply m c k n).trans (congrFun (B.wv c) _))

/-- Head `j` of device `c` is head `8 c + j` of the whole attention. -/
theorem headAt_apply (j : Fin 8) (i : Fin 256) (e : Fin 128) :
    headAt m c j (Idealize.ShloMosaic.ix2 i e)
      = headVal X Wq Wk Wv ⟨8 * c.val + j.val, by have := c.isLt; have h : nD = 16 := rfl; omega⟩ i e := by
  have hq : ∀ f : Fin 128, (⟨1024 * c.val + (128 * j.val + f.val), by have := c.isLt; have h : nD = 16 := rfl; omega⟩ : Fin 16384)
      = qcol ⟨8 * c.val + j.val, by have := c.isLt; have h : nD = 16 := rfl; omega⟩ f := fun f =>
    Fin.ext (show 1024 * c.val + (128 * j.val + f.val) = 128 * (8 * c.val + j.val) + f.val by omega)
  have hk : ∀ f : Fin 128, kvCol c ⟨128 * (j.val / 4) + f.val, by omega⟩
      = kcol ⟨8 * c.val + j.val, by have := c.isLt; have h : nD = 16 := rfl; omega⟩ f := fun f =>
    Fin.ext (show 256 * c.val + (128 * (j.val / 4) + f.val) = 128 * ((8 * c.val + j.val) / 4) + f.val by omega)
  rw [headAt, headPay_apply]
  simp only [cell, headVal, score, qAt_apply B, kAt_apply B, vAt_apply B, hq, hk]

/-- Column `k` of the device's attention is column `1024 c + k` of the heads side by side. -/
theorem attnAt_apply (i : Fin 256) (k : Fin 1024) :
    attnAt m c (Idealize.ShloMosaic.ix2 i k)
      = mixed X Wq Wk Wv i ⟨1024 * c.val + k.val, by have := c.isLt; have h : nD = 16 := rfl; omega⟩ := by
  show headAt m c ⟨k.val / 128, by omega⟩ (Pf.ix2 i.val (k.val % 128) i.isLt (Nat.mod_lt _ (by decide))) = _
  rw [ix2_mk, headAt_apply B, mixed]
  congr 1 <;> apply Fin.ext
  · show 8 * c.val + k.val / 128 = (1024 * c.val + k.val) / 128; omega
  · show k.val % 128 = (1024 * c.val + k.val) % 128; omega

/-- The device's partial product: its columns of the heads against its rows of the output projection. -/
theorem partAt_apply (i : Fin 256) (n : Fin 1024) :
    partAt m c (Idealize.ShloMosaic.ix2 i n)
      = ∑ k : Fin 1024, (fun K : Fin 16384 => mixed X Wq Wk Wv i K * Wo (Idealize.ShloMosaic.ix2 K n))
          ⟨1024 * c.val + k.val, by have := c.isLt; have h : nD = 16 := rfl; omega⟩ := by
  rw [partAt, pay16_apply]
  refine Finset.sum_congr rfl fun k _ => ?_
  rw [attnAt_apply B]
  exact congrArg _ (B.wo c k n)

/-- All the devices' partial products together are the result. -/
theorem sum_partAt (i : Fin 256) (n : Fin 1024) :
    ∑ c : Dev nD, partAt m c (Idealize.ShloMosaic.ix2 i n) = total X Wq Wk Wv Wo i n := by
  simp only [partAt_apply B]
  rw [total, ← Equiv.sum_comp (finProdFinEquiv (m := 16) (n := 1024)) (fun K : Fin 16384 => mixed X Wq Wk Wv i K * Wo (Idealize.ShloMosaic.ix2 K n)),
    Fintype.sum_prod_type]
  refine Finset.sum_congr rfl fun c _ => Finset.sum_congr rfl fun k _ => ?_
  refine congrArg (fun K : Fin 16384 => mixed X Wq Wk Wv i K * Wo (Idealize.ShloMosaic.ix2 K n)) (Fin.ext ?_)
  show 1024 * c.val + k.val = k.val + 1024 * c.val
  exact Nat.add_comm _ _

end Whole

end Cert.KernelIdeal.Pf

end
-- ==== Proof.KSum.lean ====
/- The sum over the devices: each element of the gathered result is the sum of all the partial products there. -/
module

public import proofs.«01_k».proof.Proof.KAttn

@[expose] public section

noncomputable section

namespace Cert.KernelIdeal.Pf

open Idealize.ShloMosaic Idealize.ShloMosaic.TcCoe Cert.KernelIdeal Cert.KernelIdeal.Gen Cert.Math

/-- The partner of the partner is the device itself. -/
theorem devOf_devOf' : ∀ (d : Dev nD) (r : Fin 15), devOf (devOf d r) r = d := by decide +kernel

/-- The sum of a device's own value and its partners' values is the sum over all devices. -/
theorem others_perm : ∀ d : Dev nD, (d :: parts.map (devOf d)).Perm (List.finRange 16) := by decide +kernel

theorem foldl_add_map {α : Type} (l : List α) (f : α → EReal) (a : EReal) :
    l.foldl (fun x r => x + f r) a = a + (l.map f).sum := by
  induction l generalizing a with
  | nil => simp
  | cons x l ih => rw [List.foldl_cons, ih, List.map_cons, List.sum_cons, add_assoc]

theorem sum_devices (d : Dev nD) (f : Dev nD → EReal) :
    parts.foldl (fun x r => x + f (devOf d r)) (f d) = ∑ c : Dev nD, f c := by
  rw [foldl_add_map, show (parts.map fun r => f (devOf d r)) = (parts.map (devOf d)).map f from (List.map_map ..).symm,
    ← List.sum_cons, ← List.map_cons, ((others_perm d).map f).sum_eq]
  exact (Fin.sum_univ_def (n := 16) f).symm

variable (m : (ℓ : Loc nD τ sig) → Buf (Elt Ideal) ℓ)

/-- The element of the whole array at position `(a, b)` of the block of rows of device `d`, half `h`. -/
def place (h : Fin 2) (d : Dev nD) (a : Fin 16) (b : Fin 512) : S256x1024.Idx :=
  Idealize.ShloMosaic.ix2 ⟨16 * d.val + a.val, by have := d.isLt; have h : nD = 16 := rfl; omega⟩ ⟨512 * h.val + b.val, by omega⟩

theorem ownVal_apply (h : Fin 2) (d : Dev nD) (a : Fin 16) (b : Fin 512) :
    ownVal m h d (Idealize.ShloMosaic.ix2 a b) = partAt m d (place h d a b) := by
  show partAt m d ((Rect.unit (s := S256x1024) (aOff h d) S16x512.size (aOff_inb h d)).emb (Idealize.ShloMosaic.ix2 a b)) = _
  congr 1
  funext x
  apply Fin.ext
  show aOff h d x + 1 * (Idealize.ShloMosaic.ix2 a b x).val = _
  rw [aOff_eq]
  match x with
  | ⟨0, _⟩ => show 16 * d.val + 1 * a.val = 16 * d.val + a.val; omega
  | ⟨1, _⟩ => show 512 * h.val + 1 * b.val = 512 * h.val + b.val; omega

theorem sentAt_apply (d : Dev nD) (j : S256x1024.Idx) : sentAt m d j = partAt m d j := by
  rw [sentAt, k0_pay17, shapeCast_self]
  rfl

theorem landVal_apply (h : Fin 2) (d : Dev nD) (r : Fin 15) (a : Fin 16) (b : Fin 512) :
    landVal m h d r (Idealize.ShloMosaic.ix2 a b) = partAt m (devOf d r) (place h d a b) := by
  rw [← sentAt_apply]
  show sentAt m (devOf d r)
    ((Rect.unit (s := S256x1024) (sOff h (devOf d r) r) S16x512.size (sOff_inb h (devOf d r) r)).emb (Idealize.ShloMosaic.ix2 a b)) = _
  congr 1
  funext x
  apply Fin.ext
  show sOff h (devOf d r) r x + 1 * (Idealize.ShloMosaic.ix2 a b x).val = _
  rw [sOff_eq, devOf_devOf']
  match x with
  | ⟨0, _⟩ => show 16 * d.val + 1 * a.val = 16 * d.val + a.val; omega
  | ⟨1, _⟩ => show 512 * h.val + 1 * b.val = 512 * h.val + b.val; omega

/-- The sums of one device, over all devices' partial products. -/
theorem sumVal_apply (h : Fin 2) (d : Dev nD) (a : Fin 16) (b : Fin 512) :
    sumVal m h d (Idealize.ShloMosaic.ix2 a b) = ∑ c : Dev nD, partAt m c (place h d a b) := by
  rw [← sum_devices d fun c => partAt m c (place h d a b), sumVal, ← ownVal_apply]
  generalize ownVal m h d = w
  induction parts generalizing w with
  | nil => rfl
  | cons r l ih =>
    rw [List.foldl_cons, List.foldl_cons, ih, ← landVal_apply]
    rfl

/-- Every element of the result is the sum of all devices' partial products there. -/
theorem outAt_apply (i : Fin 256) (n : Fin 1024) :
    outAt m (ix3 0 i n) = ∑ c : Dev nD, partAt m c (Idealize.ShloMosaic.ix2 i n) := by
  have e : outAt m (ix3 0 i n) = gatAt m (Idealize.ShloMosaic.ix2 i n) := by
    unfold outAt
    pointwise [k0_pay1]
  rw [e]
  show redVal m ⟨n.val / 512, by omega⟩ ⟨i.val / 16, by have h : nD = 16 := rfl; omega⟩
    (Pf.ix2 (i.val % 16) (n.val % 512) (Nat.mod_lt _ (by decide)) (Nat.mod_lt _ (by decide))) = _
  rw [ix2_mk, redVal, shapeCast_self]
  show sumVal m ⟨n.val / 512, by omega⟩ ⟨i.val / 16, by have h : nD = 16 := rfl; omega⟩ _ = _
  rw [sumVal_apply]
  refine Finset.sum_congr rfl fun c _ => congrArg (partAt m c) ?_
  funext x
  apply Fin.ext
  match x with
  | ⟨0, _⟩ => show 16 * (i.val / 16) + i.val % 16 = i.val; omega
  | ⟨1, _⟩ => show 512 * (n.val / 512) + n.val % 512 = n.val; omega

end Cert.KernelIdeal.Pf

end
-- ==== Proof.RVal.lean ====
/- What the reference computes, element by element: under finite scores its result is the attention of the formulas. -/
module

public import proofs.«01_k».proof.Proof.Gen.ReferenceIdeal.Run
public import proofs.«01_k».proof.Proof.Spec
public import Idealize.ShloMosaic.Lib.Pointwise

@[expose] public section

noncomputable section

namespace Cert.ReferenceIdeal.Value

open Idealize.ShloMosaic Idealize.ShloMosaic.TcCoe Cert.ReferenceIdeal Cert.ReferenceIdeal.Gen Cert.Math

variable (X : FVec Ideal S1x256x1024 .f32) (Wq : FVec Ideal S1024x16384 .f32) (Wk Wv : FVec Ideal S1024x4096 .f32)
  (Wo : FVec Ideal S16384x1024 .f32)

/-! ## The stages of the reference -/

/-- The queries, head by head. -/
def queries : FVec Ideal S1x256x128x128 .f32 :=
  shapeCast _ (Host.dotGeneral dot_S1x256x1024_S1024x16384_S1x256x16384_2_0_01_1_n_n none X Wq) shapeCasts_S1x256x16384_S1x256x128x128

/-- The keys (or the values), every head repeated for the four query heads it serves. -/
def repeated : FVec Ideal S1x256x128x128 .f32 :=
  shapeCast _ (broadcastInDim S1x256x32x4x128 ![0, 1, 2, 4] bcast_S1x256x32x128_S1x256x32x4x128_0_1_2_4
    (shapeCast S1x256x32x128 (Host.dotGeneral dot_S1x256x1024_S1024x4096_S1x256x4096_2_0_01_1_n_n none X Wk) shapeCasts_S1x256x4096_S1x256x32x128))
    shapeCasts_S1x256x32x4x128_S1x256x128x128

/-- The scores. -/
def scores : FVec Ideal S1x128x256x256 .f32 :=
  mulf (Host.dotGeneral dot_S1x256x128x128_S1x256x128x128_S1x128x256x256_3_3_1_1_02_02 none (queries X Wq) (repeated X Wk))
    (broadcastInDim S1x128x256x256 ![] bcast_S_S1x128x256x256 (constant S_ .f32 0x3DB504F3#32))

/-- The largest scores, the running maximum starting from minus infinity. -/
def largest : FVec Ideal S1x128x256x1 .f32 :=
  maximumf (broadcastInDim S1x128x256x1 ![] bcast_S_S1x128x256x1 (constant S_ .f32 0xFF800000#32))
    (broadcastInDim S1x128x256x1 ![0, 1, 2] bcast_S1x128x256_S1x128x256x1_0_1_2
      (Host.reduce FloatOps.maximumf (scores X Wq Wk) (constant S_ .f32 0xFF800000#32) reducesTo_S1x128x256x256_S1x128x256_d3 h_S_))

/-- The factor by which the empty running sums are rescaled. -/
def rescale : FVec Ideal S1x128x256x1 .f32 :=
  Host.exp (subf (broadcastInDim S1x128x256x1 ![] bcast_S_S1x128x256x1 (constant S_ .f32 0xFF800000#32)) (largest X Wq Wk))

/-- The weights. -/
def weights : FVec Ideal S1x128x256x256 .f32 :=
  Host.exp (subf (scores X Wq Wk) (broadcastInDim S1x128x256x256 ![0, 1, 2, 3] bcast_S1x128x256x1_S1x128x256x256_0_1_2_3 (largest X Wq Wk)))

/-- The weighted sums of the values. -/
def upper : FVec Ideal S1x256x128x128 .f32 :=
  addf (mulf (broadcastInDim S1x256x128x128 ![] bcast_S_S1x256x128x128 (constant S_ .f32 0x00000000#32))
      (broadcastInDim S1x256x128x128 ![0, 1, 2, 3] bcast_S1x256x128x1_S1x256x128x128_0_1_2_3
        (transpose S1x256x128x1 [0, 2, 1, 3] (rescale X Wq Wk) transposes_S1x128x256x1_S1x256x128x1_0_2_1_3)))
    (transpose S1x256x128x128 [0, 3, 1, 2]
      (Host.dotGeneral dot_S1x256x128x128_S1x128x256x256_S1x128x128x256_1_3_3_2_02_01 none (repeated X Wv) (weights X Wq Wk))
      transposes_S1x128x128x256_S1x256x128x128_0_3_1_2)

/-- The sums of the weights. -/
def lower : FVec Ideal S1x128x256x1 .f32 :=
  addf (mulf (broadcastInDim S1x128x256x1 ![] bcast_S_S1x128x256x1 (constant S_ .f32 0x00000000#32)) (rescale X Wq Wk))
    (broadcastInDim S1x128x256x1 ![0, 1, 2] bcast_S1x128x256_S1x128x256x1_0_1_2
      (Host.reduceAdd (weights X Wq Wk) (constant S_ .f32 0x00000000#32) reducesTo_S1x128x256x256_S1x128x256_d3 h_S_))

/-- The heads: quotients of the two. -/
def means : FVec Ideal S1x256x128x128 .f32 :=
  Host.divf (upper X Wq Wk Wv) (broadcastInDim S1x256x128x128 ![0, 1, 2, 3] bcast_S1x256x128x1_S1x256x128x128_0_1_2_3
    (transpose S1x256x128x1 [0, 2, 1, 3] (lower X Wq Wk) transposes_S1x128x256x1_S1x256x128x1_0_2_1_3))

/-- The heads side by side, times the output projection. -/
def whole : FVec Ideal S1x256x1024 .f32 :=
  Host.dotGeneral dot_S1x256x16384_S16384x1024_S1x256x1024_2_0_01_1_n_n none
    (shapeCast _ (means X Wq Wk Wv) shapeCasts_S1x256x128x128_S1x256x16384) Wo

/-- The reference's result is the stages' composition. -/
theorem res_out0_eq (m : (ℓ : Loc nD τ sig) → Buf (Elt Ideal) ℓ) (c : Dev nD) :
    res_out0 m c = whole (m ((c : Thread nD τ).loc main_arg0)) (m ((c : Thread nD τ).loc main_arg1)) (m ((c : Thread nD τ).loc main_arg2))
      (m ((c : Thread nD τ).loc main_arg3)) (m ((c : Thread nD τ).loc main_arg4)) := rfl

/-! ## The stages at an index -/

theorem queries_apply (i : Fin 256) (h e : Fin 128) : queries X Wq (ix4 0 i h e) = proj X Wq i (qcol h e) := by
  have hc : (⟨h.val * 128 + e.val, by omega⟩ : Fin 16384) = qcol h e := Fin.ext (by simp only [qcol]; omega)
  pointwise [queries]
  exact Finset.sum_congr rfl fun k _ => by rw [hc]

theorem repeated_apply (i : Fin 256) (h e : Fin 128) : repeated X Wk (ix4 0 i h e) = proj X Wk i (kcol h e) := by
  have hc : (⟨h.val / 4 * 128 + e.val, by omega⟩ : Fin 4096) = kcol h e := Fin.ext (by simp only [kcol]; omega)
  pointwise [repeated]
  exact Finset.sum_congr rfl fun k _ => by rw [hc]

theorem scores_apply (h : Fin 128) (i t : Fin 256) : scores X Wq Wk (ix4 0 h i t) = score X Wq Wk h i t := by
  pointwise [scores]
  simp only [queries_apply, repeated_apply]
  rfl

/-- The bits of minus infinity. -/
theorem bits_bot : Ideal.ofBits .f32 0xFF800000#32 = ⊥ := by simp [Ideal.ofBits, Ideal.ieee]

/-- The host's maximum over a row, from minus infinity. -/
theorem rowMax_apply (S : FVec Ideal S1x128x256x256 .f32) (h : Fin 128) (i : Fin 256) :
    Host.reduce FloatOps.maximumf S (constant S_ .f32 0xFF800000#32) reducesTo_S1x128x256x256_S1x128x256_d3 h_S_ (ix3 0 h i)
      = Finset.univ.fold max (Ideal.ofBits .f32 0xFF800000#32) (fun t => S (ix4 0 h i t)) := by
  pointwise

/-- The larger of minus infinity and a column of row values. -/
theorem floor_apply (R : FVec Ideal S1x128x256 .f32) (h : Fin 128) (i : Fin 256) :
    maximumf (broadcastInDim S1x128x256x1 ![] bcast_S_S1x128x256x1 (constant S_ .f32 0xFF800000#32))
      (broadcastInDim S1x128x256x1 ![0, 1, 2] bcast_S1x128x256_S1x128x256x1_0_1_2 R) (ix4 0 h i 0)
      = max (Ideal.ofBits .f32 0xFF800000#32) (R (ix3 0 h i)) := by
  pointwise

theorem largest_apply (h : Fin 128) (i : Fin 256) :
    largest X Wq Wk (ix4 0 h i 0) = Finset.univ.fold max ⊥ (fun t => score X Wq Wk h i t) := by
  rw [largest, floor_apply, rowMax_apply, bits_bot, max_eq_right bot_le]
  simp only [scores_apply]

theorem weights_apply (h : Fin 128) (i t : Fin 256) :
    weights X Wq Wk (ix4 0 h i t) = Ideal.exp (score X Wq Wk h i t - largest X Wq Wk (ix4 0 h i 0)) := by
  pointwise [weights]
  rw [scores_apply]

theorem upper_apply (h : Fin 128) (i : Fin 256) (e : Fin 128) : upper X Wq Wk Wv (ix4 0 i h e)
    = 0 * rescale X Wq Wk (ix4 0 h i 0)
      + ∑ t : Fin 256, proj X Wv t (kcol h e) * Ideal.exp (score X Wq Wk h i t - largest X Wq Wk (ix4 0 h i 0)) := by
  pointwise [upper]
  simp only [repeated_apply, weights_apply]

theorem lower_apply (h : Fin 128) (i : Fin 256) : lower X Wq Wk (ix4 0 h i 0)
    = 0 * rescale X Wq Wk (ix4 0 h i 0) + ∑ t : Fin 256, Ideal.exp (score X Wq Wk h i t - largest X Wq Wk (ix4 0 h i 0)) := by
  pointwise [lower]
  simp only [weights_apply]

theorem means_eq (h : Fin 128) (i : Fin 256) (e : Fin 128) :
    means X Wq Wk Wv (ix4 0 i h e) = Ideal.div (upper X Wq Wk Wv (ix4 0 i h e)) (lower X Wq Wk (ix4 0 h i 0)) := by
  pointwise [means]

variable {X Wq Wk}

/-- Where every score is real, a head of the reference is the mean with exponential weights: the shift by the largest score cancels. -/
theorem means_apply (hX : ∀ i, IsReal (X i)) (hq : ∀ i, IsReal (Wq i)) (hk : ∀ i, IsReal (Wk i)) (h : Fin 128) (i : Fin 256) (e : Fin 128) :
    means X Wq Wk Wv (ix4 0 i h e) = headVal X Wq Wk Wv h i e := by
  have hs := isReal_score hX hq hk h i
  rw [means_eq, upper_apply, lower_apply, softmax_update _ _ hs _ (by rw [largest_apply]; exact isReal_fold_max _ hs)]
  rfl

/-- And the reference's result is the attention of the formulas. -/
theorem whole_apply (hX : ∀ i, IsReal (X i)) (hq : ∀ i, IsReal (Wq i)) (hk : ∀ i, IsReal (Wk i)) (i : Fin 256) (n : Fin 1024) :
    whole X Wq Wk Wv Wo (ix3 0 i n) = total X Wq Wk Wv Wo i n := by
  pointwise [whole]
  simp only [means_apply _ hX hq hk]
  rfl

end Cert.ReferenceIdeal.Value

end
-- ==== Proof.Value.lean ====
/- The equation: where the inputs that make the scores are finite, the kernel's result is the reference's. -/
module

public import proofs.«01_k».proof.Defs
public import proofs.«01_k».proof.Proof.KSum
public import proofs.«01_k».proof.Proof.RVal
public import proofs.«01_k».proof.Proof.Gen.KernelIdeal
public import proofs.«01_k».proof.Proof.Gen.ReferenceIdeal

@[expose] public section

noncomputable section

namespace Cert.Proof

open Idealize.ShloMosaic Cert.Math

/-! ## Reading the precondition -/

/-- An extended real whose absolute value lies below plus infinity is a real. -/
theorem isReal_of_abs_lt {a : EReal} (h : max a (-a) < ⊤) : IsReal a := by
  induction a using EReal.rec with
  | bot => simp at h
  | coe r => exact ⟨r, rfl⟩
  | top => simp at h

/-- The bits of plus infinity. -/
theorem bits_top : Ideal.ofBits .f32 0x7F800000#32 = ⊤ := by simp [Ideal.ofBits, Ideal.ieee]

/-- An array every element of which compares below plus infinity in absolute value holds reals. -/
theorem isReal_of_test {s : Shape} (v : FVec Ideal s .f32) (hb : (⟨0, ![]⟩ : Shape).BroadcastsInDim s (![] : Fin 0 → Fin s.rank))
    (h : cmpf .olt (Host.absf v) (broadcastInDim s ![] hb (constant (⟨0, ![]⟩ : Shape) .f32 0x7F800000#32)) = fun _ => 1#1) (i : s.Idx) :
    IsReal (v i) := by
  have h1 : Ideal.cmp .olt (max (v i) (-(v i))) (Ideal.ofBits .f32 0x7F800000#32) = 1#1 := congrFun h i
  rw [bits_top] at h1
  refine isReal_of_abs_lt ?_
  by_contra hn
  simp [Ideal.cmp, hn] at h1

/-- The operations of the two printed tests are well formed. -/
theorem preFacts_kernel : Cert.Pre_finite_scores_KernelIdeal.Facts where
  bcast_S_S1x256x1024 := by decide
  bcast_S_S1024x1024 := by decide
  bcast_S_S1024x4096 := by decide

theorem preFacts_reference : Cert.Pre_finite_scores_ReferenceIdeal.Facts where
  bcast_S_S1x256x1024 := by decide
  bcast_S_S1024x16384 := by decide
  bcast_S_S1024x4096 := by decide

section Kernel
open Cert.KernelIdeal Cert.KernelIdeal.Gen

variable {m : (ℓ : Loc nD τ sig) → Buf (Elt Ideal) ℓ}

/-- What the precondition says of one device: its inputs and its columns of the query projection are real, and so is the key projection. -/
theorem real_args (hP : Cert.Pre_KernelIdeal_finite_scores_KernelIdeal (hPre_finite_scores_KernelIdeal := preFacts_kernel) m) (c : Dev nD) :
    (∀ i, IsReal (m ((c.tc : Thread nD τ).loc main_arg0) i)) ∧ (∀ i, IsReal (m ((c.tc : Thread nD τ).loc main_arg1) i))
      ∧ ∀ i, IsReal (m ((c.tc : Thread nD τ).loc main_arg2) i) := by
  obtain ⟨h0, h1, h2⟩ := hP c
  exact ⟨isReal_of_test _ _ h0, isReal_of_test _ _ h1, isReal_of_test _ _ h2⟩

/-! ## The devices' blocks -/

variable {X : Inp} {Wq : Mat 1024 16384} {Wk Wv : Mat 1024 4096} {Wo : Mat 16384 1024}

/-- Blocks of the whole matrices, read by row and column. -/
theorem blocks_of (h : ∀ c : Dev nD, m ((c.tc : Thread nD τ).loc main_arg0) = X
      ∧ m ((c.tc : Thread nD τ).loc main_arg1) = Layout.block ⟨2, ![1024, 1024]⟩ ⟨2, ![1024, 16384]⟩ 1 16 c Wq
      ∧ m ((c.tc : Thread nD τ).loc main_arg2) = Wk ∧ m ((c.tc : Thread nD τ).loc main_arg3) = Wv
      ∧ m ((c.tc : Thread nD τ).loc main_arg4) = Layout.block ⟨2, ![1024, 1024]⟩ ⟨2, ![16384, 1024]⟩ 0 16 c Wo) :
    Cert.KernelIdeal.Pf.Blocks m X Wq Wk Wv Wo where
  x c := (h c).1
  wq c k n := by
    rw [(h c).2.1, Layout.block_apply]
    refine congrArg Wq (funext fun b => ?_)
    fin_cases b
    · rfl
    · exact Fin.ext (Nat.add_right_cancel_iff.2 (Nat.mul_comm c.val 1024))
  wk c := (h c).2.2.1
  wv c := (h c).2.2.2.1
  wo c k n := by
    rw [(h c).2.2.2.2, Layout.block_apply]
    refine congrArg Wo (funext fun b => ?_)
    fin_cases b
    · exact Fin.ext (Nat.add_right_cancel_iff.2 (Nat.mul_comm c.val 1024))
    · rfl

/-- Every column of the whole query projection lies in some device's block, so it holds reals. -/
theorem real_wq (B : Cert.KernelIdeal.Pf.Blocks m X Wq Wk Wv Wo) (h : ∀ (c : Dev nD) i, IsReal (m ((c.tc : Thread nD τ).loc main_arg1) i))
    (j : (⟨2, ![1024, 16384]⟩ : Shape).Idx) : IsReal (Wq j) := by
  obtain ⟨k, n, rfl⟩ : ∃ (k : Fin 1024) (n : Fin 16384), j = ix2 k n := ⟨j 0, j 1, eq_ix2 j⟩
  have hn := n.isLt
  have h1 := B.wq (⟨n.val / 1024, by omega⟩ : Fin 16) k ⟨n.val % 1024, Nat.mod_lt _ (by decide)⟩
  have h2 := h (⟨n.val / 1024, by omega⟩ : Fin 16) (ix2 k ⟨n.val % 1024, Nat.mod_lt _ (by decide)⟩)
  have e : (⟨1024 * (n.val / 1024) + n.val % 1024, by omega⟩ : Fin 16384) = n := Fin.ext (Nat.div_add_mod _ _)
  rw [← e]
  exact h1 ▸ h2

/-- Where the inputs that make the scores are real, the kernel's result is the reference's. -/
theorem out_eq (B : Cert.KernelIdeal.Pf.Blocks m X Wq Wk Wv Wo)
    (hX : ∀ i, IsReal (X i)) (hq : ∀ i, IsReal (Wq i)) (hk : ∀ i, IsReal (Wk i)) :
    Cert.KernelIdeal.Pf.outAt m = Cert.ReferenceIdeal.Value.whole X Wq Wk Wv Wo := by
  funext j
  obtain ⟨i, n, rfl⟩ : ∃ (i : Fin 256) (n : Fin 1024), j = ix3 (0 : Fin 1) i n :=
    ⟨j 1, j 2, (eq_ix3 j).trans (congrArg (fun a : Fin 1 => ix3 a (j 1) (j 2)) (Subsingleton.elim _ _))⟩
  exact ((Cert.KernelIdeal.Pf.outAt_apply m i n).trans (Cert.KernelIdeal.Pf.sum_partAt B i n)).trans
    (Cert.ReferenceIdeal.Value.whole_apply Wv Wo hX hq hk i n).symm

end Kernel

end Cert.Proof

end
-- ==== Proof.lean ====
/- The claims about the sharded attention kernel, put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem

/-- The kernel's own text runs to the end over any float values, its arguments unchanged and its counters at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread _ Cert.KernelIdeal.τ).loc Cert.KernelIdeal.main_arg0) = m ((c.tc : Thread _ Cert.KernelIdeal.τ).loc Cert.KernelIdeal.main_arg0)
        ∧ r.2.mem ((c.tc : Thread _ Cert.KernelIdeal.τ).loc Cert.KernelIdeal.main_arg1) = m ((c.tc : Thread _ Cert.KernelIdeal.τ).loc Cert.KernelIdeal.main_arg1)
        ∧ r.2.mem ((c.tc : Thread _ Cert.KernelIdeal.τ).loc Cert.KernelIdeal.main_arg2) = m ((c.tc : Thread _ Cert.KernelIdeal.τ).loc Cert.KernelIdeal.main_arg2)
        ∧ r.2.mem ((c.tc : Thread _ Cert.KernelIdeal.τ).loc Cert.KernelIdeal.main_arg3) = m ((c.tc : Thread _ Cert.KernelIdeal.τ).loc Cert.KernelIdeal.main_arg3)
        ∧ r.2.mem ((c.tc : Thread _ Cert.KernelIdeal.τ).loc Cert.KernelIdeal.main_arg4) = m ((c.tc : Thread _ Cert.KernelIdeal.τ).loc Cert.KernelIdeal.main_arg4))
      ∧ r.2.sem = fun _ => 0) :=
  (θ_run Cert.KernelIdeal.defs _ _).mono (fun _ h => ⟨fun c => (h.1 c).2, h.2⟩) (Cert.KernelIdeal.Pf.run_main m ρ)

set_option maxRecDepth 100000 in
/-- The two printed copies of the kernel have the same body. -/
theorem body_same {F : FTy → Type} [FloatOps F] :
    @Cert.Kernel.cc0_body F _ _ = @Cert.KernelIdeal.cc0_body F _ _ := rfl

/-- So they have the same table of bodies. -/
theorem defs₀_same {F : FTy → Type} [FloatOps F] :
    Cert.Kernel.defs₀ (F := F) = Cert.KernelIdeal.defs₀ (F := F) := by
  unfold Cert.Kernel.defs₀ Cert.KernelIdeal.defs₀
  congr 1
  funext l
  rcases l with ⟨l, h⟩
  cases l with
  | zero => funext x; rfl
  | succ n => exact absurd h (Nat.not_lt.2 (Nat.le_add_left _ _))

theorem defs_same {F : FTy → Type} [FloatOps F] :
    Cert.Kernel.defs (F := F) = Cert.KernelIdeal.defs (F := F) :=
  congrArg (Pipeline.defs _) defs₀_same

set_option maxRecDepth 100000 in
/-- The kernel over machine floats. -/
theorem frame_kernel : Cert.quiescent_Kernel (hKernel := Cert.Kernel.Gen.facts) := fun m ρ _ => by
  rw [defs_same]
  exact frame_any (F := Bits) m ρ

/-- The kernel over extended reals. -/
theorem frame_ideal : Cert.quiescent_KernelIdeal (hKernelIdeal := Cert.KernelIdeal.Gen.facts) := fun m ρ _ => frame_any m ρ

/-- And the reference, which has no counter at all. -/
theorem frame_reference : Cert.quiescent_ReferenceIdeal (hReferenceIdeal := Cert.ReferenceIdeal.Gen.facts) := fun m ρ _ =>
  (θ_run Cert.ReferenceIdeal.defs _ _).mono
    (fun _ h => ⟨fun c => (h c).2, funext fun g => by rcases g with ⟨_, sm⟩; cases sm <;> exact Fin.elim0 (by assumption)⟩)
    (Cert.ReferenceIdeal.Value.run (F := Ideal) m ρ)

/-- Of the whole matrices the kernel and the reference compute one array. -/
theorem values : Cert.algebraic_KernelIdeal_ReferenceIdeal_pre_finite_scores_KernelIdeal (hKernelIdeal := Cert.KernelIdeal.Gen.facts)
    (hReferenceIdeal := Cert.ReferenceIdeal.Gen.facts) (hPre_finite_scores_KernelIdeal := preFacts_kernel) := by
  intro m g m' g' hP h
  have B := blocks_of h
  obtain ⟨hx, -, hk⟩ := real_args hP 0
  have e := out_eq B (fun i => B.x 0 ▸ hx i) (real_wq B fun c => (real_args hP c).2.1) (fun i => B.wk 0 ▸ hk i)
  refine ⟨Cert.ReferenceIdeal.Value.res_out0 m' 0, ?_, ?_⟩
  · exact (θ_run Cert.KernelIdeal.defs _ _).mono
      (fun _ hr c => ⟨((hr.1 c).1.trans e).trans (Cert.ReferenceIdeal.Value.res_out0_eq m' 0).symm, (hr.1 c).2⟩)
      (Cert.KernelIdeal.Pf.run_main m g)
  · exact (θ_run Cert.ReferenceIdeal.defs _ _).mono (fun _ hr => hr 0) (Cert.ReferenceIdeal.Value.run (F := Ideal) m' g')

theorem claim : Cert.Claim :=
  ⟨Cert.Kernel.Gen.facts, Cert.KernelIdeal.Gen.facts, Cert.ReferenceIdeal.Gen.facts, preFacts_kernel, preFacts_reference,
    frame_kernel, frame_ideal, fun m ρ _ => frame_ideal m ρ trivial, frame_reference, fun m ρ _ => frame_reference m ρ trivial, trivial, values⟩

end Cert.Proof

end
